-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_queries_and_keys [hPre_finite_queries_and_keys : Cert.Pre_finite_queries_and_keys.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_queries_and_keys.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_queries_and_keys [hPre_finite_queries_and_keys : Cert.Pre_finite_queries_and_keys.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_queries_and_keys.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2))) = (fun _ => 1#1)

def Pre_Device (m : (ℓ : Loc Cert.Device.nD Cert.Device.τ Cert.Device.sig) → Buf (Elt Bits) ℓ) : Prop :=
  True

def Pre_DeviceIdeal (m : (ℓ : Loc Cert.DeviceIdeal.nD Cert.DeviceIdeal.τ Cert.DeviceIdeal.sig) → Buf (Elt Ideal) ℓ) : Prop :=
  True

def Pre_DeviceIdeal_finite_inputs_and_keys [hPre_finite_inputs_and_keys : Cert.Pre_finite_inputs_and_keys.Facts] (m : (ℓ : Loc Cert.DeviceIdeal.nD Cert.DeviceIdeal.τ Cert.DeviceIdeal.sig) → Buf (Elt Ideal) ℓ) : Prop :=
  ∀ c : Dev Cert.DeviceIdeal.nD,
    (Cert.Pre_finite_inputs_and_keys.fn (F := Ideal) (m ((c.tc : Thread Cert.DeviceIdeal.nD Cert.DeviceIdeal.τ).loc Cert.DeviceIdeal.main_arg0)) (m ((c.tc : Thread Cert.DeviceIdeal.nD Cert.DeviceIdeal.τ).loc Cert.DeviceIdeal.main_arg1)) (m ((c.tc : Thread Cert.DeviceIdeal.nD Cert.DeviceIdeal.τ).loc Cert.DeviceIdeal.main_arg2)) (m ((c.tc : Thread Cert.DeviceIdeal.nD Cert.DeviceIdeal.τ).loc Cert.DeviceIdeal.main_arg3)) (m ((c.tc : Thread Cert.DeviceIdeal.nD Cert.DeviceIdeal.τ).loc Cert.DeviceIdeal.main_arg4))) = (fun _ => 1#1)

def Pre_DeviceReferenceIdeal (m : (ℓ : Loc Cert.DeviceReferenceIdeal.nD Cert.DeviceReferenceIdeal.τ Cert.DeviceReferenceIdeal.sig) → Buf (Elt Ideal) ℓ) : Prop :=
  True

def Pre_DeviceReferenceIdeal_finite_inputs_and_keys [hPre_finite_inputs_and_keys : Cert.Pre_finite_inputs_and_keys.Facts] (m : (ℓ : Loc Cert.DeviceReferenceIdeal.nD Cert.DeviceReferenceIdeal.τ Cert.DeviceReferenceIdeal.sig) → Buf (Elt Ideal) ℓ) : Prop :=
  ∀ c : Dev Cert.DeviceReferenceIdeal.nD,
    (Cert.Pre_finite_inputs_and_keys.fn (F := Ideal) (m ((c.tc : Thread Cert.DeviceReferenceIdeal.nD Cert.DeviceReferenceIdeal.τ).loc Cert.DeviceReferenceIdeal.main_arg0)) (m ((c.tc : Thread Cert.DeviceReferenceIdeal.nD Cert.DeviceReferenceIdeal.τ).loc Cert.DeviceReferenceIdeal.main_arg1)) (m ((c.tc : Thread Cert.DeviceReferenceIdeal.nD Cert.DeviceReferenceIdeal.τ).loc Cert.DeviceReferenceIdeal.main_arg2)) (m ((c.tc : Thread Cert.DeviceReferenceIdeal.nD Cert.DeviceReferenceIdeal.τ).loc Cert.DeviceReferenceIdeal.main_arg3)) (m ((c.tc : Thread Cert.DeviceReferenceIdeal.nD Cert.DeviceReferenceIdeal.τ).loc Cert.DeviceReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_queries_and_keys [hAttentionIdeal : Cert.AttentionIdeal.Facts] [hPre_finite_queries_and_keys : Cert.Pre_finite_queries_and_keys.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_queries_and_keys m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_AttentionReferenceIdeal_pre_finite_queries_and_keys [hAttentionReferenceIdeal : Cert.AttentionReferenceIdeal.Facts] [hPre_finite_queries_and_keys : Cert.Pre_finite_queries_and_keys.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_queries_and_keys m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_Device [hDevice : Cert.Device.Facts] : Prop :=
  ∀ (m : (ℓ : Loc Cert.Device.nD Cert.Device.τ Cert.Device.sig) → Buf (Elt Bits) ℓ) (g : Dev Cert.Device.nD → PrngReg), Pre_Device m →
    θ_run (Cert.Device.defs (F := Bits)) (onTc (τ := Cert.Device.τ) (Cert.Device.main (F := Bits))) ⟨m, fun _ => 0, g⟩ (fun r => (∀ c : Dev Cert.Device.nD,
      r.2.mem ((c.tc : Thread Cert.Device.nD Cert.Device.τ).loc Cert.Device.main_arg0) = m ((c.tc : Thread Cert.Device.nD Cert.Device.τ).loc Cert.Device.main_arg0)
      ∧ r.2.mem ((c.tc : Thread Cert.Device.nD Cert.Device.τ).loc Cert.Device.main_arg1) = m ((c.tc : Thread Cert.Device.nD Cert.Device.τ).loc Cert.Device.main_arg1)
      ∧ r.2.mem ((c.tc : Thread Cert.Device.nD Cert.Device.τ).loc Cert.Device.main_arg2) = m ((c.tc : Thread Cert.Device.nD Cert.Device.τ).loc Cert.Device.main_arg2)
      ∧ r.2.mem ((c.tc : Thread Cert.Device.nD Cert.Device.τ).loc Cert.Device.main_arg3) = m ((c.tc : Thread Cert.Device.nD Cert.Device.τ).loc Cert.Device.main_arg3)
      ∧ r.2.mem ((c.tc : Thread Cert.Device.nD Cert.Device.τ).loc Cert.Device.main_arg4) = m ((c.tc : Thread Cert.Device.nD Cert.Device.τ).loc Cert.Device.main_arg4))
      ∧ r.2.sem = fun _ => 0)

def quiescent_DeviceIdeal [hDeviceIdeal : Cert.DeviceIdeal.Facts] : Prop :=
  ∀ (m : (ℓ : Loc Cert.DeviceIdeal.nD Cert.DeviceIdeal.τ Cert.DeviceIdeal.sig) → Buf (Elt Ideal) ℓ) (g : Dev Cert.DeviceIdeal.nD → PrngReg), Pre_DeviceIdeal m →
    θ_run (Cert.DeviceIdeal.defs (F := Ideal)) (onTc (τ := Cert.DeviceIdeal.τ) (Cert.DeviceIdeal.main (F := Ideal))) ⟨m, fun _ => 0, g⟩ (fun r => (∀ c : Dev Cert.DeviceIdeal.nD,
      r.2.mem ((c.tc : Thread Cert.DeviceIdeal.nD Cert.DeviceIdeal.τ).loc Cert.DeviceIdeal.main_arg0) = m ((c.tc : Thread Cert.DeviceIdeal.nD Cert.DeviceIdeal.τ).loc Cert.DeviceIdeal.main_arg0)
      ∧ r.2.mem ((c.tc : Thread Cert.DeviceIdeal.nD Cert.DeviceIdeal.τ).loc Cert.DeviceIdeal.main_arg1) = m ((c.tc : Thread Cert.DeviceIdeal.nD Cert.DeviceIdeal.τ).loc Cert.DeviceIdeal.main_arg1)
      ∧ r.2.mem ((c.tc : Thread Cert.DeviceIdeal.nD Cert.DeviceIdeal.τ).loc Cert.DeviceIdeal.main_arg2) = m ((c.tc : Thread Cert.DeviceIdeal.nD Cert.DeviceIdeal.τ).loc Cert.DeviceIdeal.main_arg2)
      ∧ r.2.mem ((c.tc : Thread Cert.DeviceIdeal.nD Cert.DeviceIdeal.τ).loc Cert.DeviceIdeal.main_arg3) = m ((c.tc : Thread Cert.DeviceIdeal.nD Cert.DeviceIdeal.τ).loc Cert.DeviceIdeal.main_arg3)
      ∧ r.2.mem ((c.tc : Thread Cert.DeviceIdeal.nD Cert.DeviceIdeal.τ).loc Cert.DeviceIdeal.main_arg4) = m ((c.tc : Thread Cert.DeviceIdeal.nD Cert.DeviceIdeal.τ).loc Cert.DeviceIdeal.main_arg4))
      ∧ r.2.sem = fun _ => 0)

def quiescent_DeviceIdeal_pre_finite_inputs_and_keys [hDeviceIdeal : Cert.DeviceIdeal.Facts] [hPre_finite_inputs_and_keys : Cert.Pre_finite_inputs_and_keys.Facts] : Prop :=
  ∀ (m : (ℓ : Loc Cert.DeviceIdeal.nD Cert.DeviceIdeal.τ Cert.DeviceIdeal.sig) → Buf (Elt Ideal) ℓ) (g : Dev Cert.DeviceIdeal.nD → PrngReg), Pre_DeviceIdeal_finite_inputs_and_keys m →
    θ_run (Cert.DeviceIdeal.defs (F := Ideal)) (onTc (τ := Cert.DeviceIdeal.τ) (Cert.DeviceIdeal.main (F := Ideal))) ⟨m, fun _ => 0, g⟩ (fun r => (∀ c : Dev Cert.DeviceIdeal.nD,
      r.2.mem ((c.tc : Thread Cert.DeviceIdeal.nD Cert.DeviceIdeal.τ).loc Cert.DeviceIdeal.main_arg0) = m ((c.tc : Thread Cert.DeviceIdeal.nD Cert.DeviceIdeal.τ).loc Cert.DeviceIdeal.main_arg0)
      ∧ r.2.mem ((c.tc : Thread Cert.DeviceIdeal.nD Cert.DeviceIdeal.τ).loc Cert.DeviceIdeal.main_arg1) = m ((c.tc : Thread Cert.DeviceIdeal.nD Cert.DeviceIdeal.τ).loc Cert.DeviceIdeal.main_arg1)
      ∧ r.2.mem ((c.tc : Thread Cert.DeviceIdeal.nD Cert.DeviceIdeal.τ).loc Cert.DeviceIdeal.main_arg2) = m ((c.tc : Thread Cert.DeviceIdeal.nD Cert.DeviceIdeal.τ).loc Cert.DeviceIdeal.main_arg2)
      ∧ r.2.mem ((c.tc : Thread Cert.DeviceIdeal.nD Cert.DeviceIdeal.τ).loc Cert.DeviceIdeal.main_arg3) = m ((c.tc : Thread Cert.DeviceIdeal.nD Cert.DeviceIdeal.τ).loc Cert.DeviceIdeal.main_arg3)
      ∧ r.2.mem ((c.tc : Thread Cert.DeviceIdeal.nD Cert.DeviceIdeal.τ).loc Cert.DeviceIdeal.main_arg4) = m ((c.tc : Thread Cert.DeviceIdeal.nD Cert.DeviceIdeal.τ).loc Cert.DeviceIdeal.main_arg4))
      ∧ r.2.sem = fun _ => 0)

def quiescent_DeviceReferenceIdeal [hDeviceReferenceIdeal : Cert.DeviceReferenceIdeal.Facts] : Prop :=
  ∀ (m : (ℓ : Loc Cert.DeviceReferenceIdeal.nD Cert.DeviceReferenceIdeal.τ Cert.DeviceReferenceIdeal.sig) → Buf (Elt Ideal) ℓ) (g : Dev Cert.DeviceReferenceIdeal.nD → PrngReg), Pre_DeviceReferenceIdeal m →
    θ_run (Cert.DeviceReferenceIdeal.defs (F := Ideal)) (onTc (τ := Cert.DeviceReferenceIdeal.τ) (Cert.DeviceReferenceIdeal.main (F := Ideal))) ⟨m, fun _ => 0, g⟩ (fun r => (∀ c : Dev Cert.DeviceReferenceIdeal.nD,
      r.2.mem ((c.tc : Thread Cert.DeviceReferenceIdeal.nD Cert.DeviceReferenceIdeal.τ).loc Cert.DeviceReferenceIdeal.main_arg0) = m ((c.tc : Thread Cert.DeviceReferenceIdeal.nD Cert.DeviceReferenceIdeal.τ).loc Cert.DeviceReferenceIdeal.main_arg0)
      ∧ r.2.mem ((c.tc : Thread Cert.DeviceReferenceIdeal.nD Cert.DeviceReferenceIdeal.τ).loc Cert.DeviceReferenceIdeal.main_arg1) = m ((c.tc : Thread Cert.DeviceReferenceIdeal.nD Cert.DeviceReferenceIdeal.τ).loc Cert.DeviceReferenceIdeal.main_arg1)
      ∧ r.2.mem ((c.tc : Thread Cert.DeviceReferenceIdeal.nD Cert.DeviceReferenceIdeal.τ).loc Cert.DeviceReferenceIdeal.main_arg2) = m ((c.tc : Thread Cert.DeviceReferenceIdeal.nD Cert.DeviceReferenceIdeal.τ).loc Cert.DeviceReferenceIdeal.main_arg2)
      ∧ r.2.mem ((c.tc : Thread Cert.DeviceReferenceIdeal.nD Cert.DeviceReferenceIdeal.τ).loc Cert.DeviceReferenceIdeal.main_arg3) = m ((c.tc : Thread Cert.DeviceReferenceIdeal.nD Cert.DeviceReferenceIdeal.τ).loc Cert.DeviceReferenceIdeal.main_arg3)
      ∧ r.2.mem ((c.tc : Thread Cert.DeviceReferenceIdeal.nD Cert.DeviceReferenceIdeal.τ).loc Cert.DeviceReferenceIdeal.main_arg4) = m ((c.tc : Thread Cert.DeviceReferenceIdeal.nD Cert.DeviceReferenceIdeal.τ).loc Cert.DeviceReferenceIdeal.main_arg4))
      ∧ r.2.sem = fun _ => 0)

def quiescent_DeviceReferenceIdeal_pre_finite_inputs_and_keys [hDeviceReferenceIdeal : Cert.DeviceReferenceIdeal.Facts] [hPre_finite_inputs_and_keys : Cert.Pre_finite_inputs_and_keys.Facts] : Prop :=
  ∀ (m : (ℓ : Loc Cert.DeviceReferenceIdeal.nD Cert.DeviceReferenceIdeal.τ Cert.DeviceReferenceIdeal.sig) → Buf (Elt Ideal) ℓ) (g : Dev Cert.DeviceReferenceIdeal.nD → PrngReg), Pre_DeviceReferenceIdeal_finite_inputs_and_keys m →
    θ_run (Cert.DeviceReferenceIdeal.defs (F := Ideal)) (onTc (τ := Cert.DeviceReferenceIdeal.τ) (Cert.DeviceReferenceIdeal.main (F := Ideal))) ⟨m, fun _ => 0, g⟩ (fun r => (∀ c : Dev Cert.DeviceReferenceIdeal.nD,
      r.2.mem ((c.tc : Thread Cert.DeviceReferenceIdeal.nD Cert.DeviceReferenceIdeal.τ).loc Cert.DeviceReferenceIdeal.main_arg0) = m ((c.tc : Thread Cert.DeviceReferenceIdeal.nD Cert.DeviceReferenceIdeal.τ).loc Cert.DeviceReferenceIdeal.main_arg0)
      ∧ r.2.mem ((c.tc : Thread Cert.DeviceReferenceIdeal.nD Cert.DeviceReferenceIdeal.τ).loc Cert.DeviceReferenceIdeal.main_arg1) = m ((c.tc : Thread Cert.DeviceReferenceIdeal.nD Cert.DeviceReferenceIdeal.τ).loc Cert.DeviceReferenceIdeal.main_arg1)
      ∧ r.2.mem ((c.tc : Thread Cert.DeviceReferenceIdeal.nD Cert.DeviceReferenceIdeal.τ).loc Cert.DeviceReferenceIdeal.main_arg2) = m ((c.tc : Thread Cert.DeviceReferenceIdeal.nD Cert.DeviceReferenceIdeal.τ).loc Cert.DeviceReferenceIdeal.main_arg2)
      ∧ r.2.mem ((c.tc : Thread Cert.DeviceReferenceIdeal.nD Cert.DeviceReferenceIdeal.τ).loc Cert.DeviceReferenceIdeal.main_arg3) = m ((c.tc : Thread Cert.DeviceReferenceIdeal.nD Cert.DeviceReferenceIdeal.τ).loc Cert.DeviceReferenceIdeal.main_arg3)
      ∧ r.2.mem ((c.tc : Thread Cert.DeviceReferenceIdeal.nD Cert.DeviceReferenceIdeal.τ).loc Cert.DeviceReferenceIdeal.main_arg4) = m ((c.tc : Thread Cert.DeviceReferenceIdeal.nD Cert.DeviceReferenceIdeal.τ).loc Cert.DeviceReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![32, 2048, 128]⟩ ⟨3, ![32, 8192, 128]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![32, 2048, 128]⟩ ⟨3, ![32, 8192, 128]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![32, 2048, 128]⟩ ⟨3, ![128, 2048, 128]⟩ 0 4 c v0
          ∧ r.2.mem ((c.tc : Thread Cert.KernelIdeal.nD Cert.KernelIdeal.τ).loc Cert.KernelIdeal.main_v1_1) = Layout.block ⟨3, ![32, 2048, 128]⟩ ⟨3, ![128, 2048, 128]⟩ 0 4 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Attention_AttentionIdeal : Prop :=
  IdealRules.named_const.Statement Cert.AttentionIdeal.κ "mask" .f32 0xCE6E6B28#32 ⊥

def algebraic_AttentionIdeal_AttentionReferenceIdeal_pre_finite_queries_and_keys [hAttentionIdeal : Cert.AttentionIdeal.Facts] [hAttentionReferenceIdeal : Cert.AttentionReferenceIdeal.Facts] [hPre_finite_queries_and_keys : Cert.Pre_finite_queries_and_keys.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_queries_and_keys m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v4)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v4) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v40) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def preserves_Device_DeviceIdeal : Prop :=
  IdealRules.named_const.Statement Cert.DeviceIdeal.κ "mask" .f32 0xCE6E6B28#32 ⊥

def algebraic_DeviceIdeal_DeviceReferenceIdeal_pre_finite_inputs_and_keys [hDeviceIdeal : Cert.DeviceIdeal.Facts] [hDeviceReferenceIdeal : Cert.DeviceReferenceIdeal.Facts] [hPre_finite_inputs_and_keys : Cert.Pre_finite_inputs_and_keys.Facts] : Prop :=
  ∀ (m : (ℓ : Loc Cert.DeviceIdeal.nD Cert.DeviceIdeal.τ Cert.DeviceIdeal.sig) → Buf (Elt Ideal) ℓ) (g : Dev Cert.DeviceIdeal.nD → PrngReg)
    (m' : (ℓ : Loc Cert.DeviceReferenceIdeal.nD Cert.DeviceReferenceIdeal.τ Cert.DeviceReferenceIdeal.sig) → Buf (Elt Ideal) ℓ) (g' : Dev Cert.DeviceReferenceIdeal.nD → PrngReg), Pre_DeviceIdeal_finite_inputs_and_keys m →
    (∀ c : Dev Cert.DeviceIdeal.nD,
      m' ((c.tc : Thread Cert.DeviceReferenceIdeal.nD Cert.DeviceReferenceIdeal.τ).loc Cert.DeviceReferenceIdeal.main_arg0) = m ((c.tc : Thread Cert.DeviceIdeal.nD Cert.DeviceIdeal.τ).loc Cert.DeviceIdeal.main_arg0)
      ∧ m' ((c.tc : Thread Cert.DeviceReferenceIdeal.nD Cert.DeviceReferenceIdeal.τ).loc Cert.DeviceReferenceIdeal.main_arg1) = m ((c.tc : Thread Cert.DeviceIdeal.nD Cert.DeviceIdeal.τ).loc Cert.DeviceIdeal.main_arg1)
      ∧ m' ((c.tc : Thread Cert.DeviceReferenceIdeal.nD Cert.DeviceReferenceIdeal.τ).loc Cert.DeviceReferenceIdeal.main_arg2) = m ((c.tc : Thread Cert.DeviceIdeal.nD Cert.DeviceIdeal.τ).loc Cert.DeviceIdeal.main_arg2)
      ∧ m' ((c.tc : Thread Cert.DeviceReferenceIdeal.nD Cert.DeviceReferenceIdeal.τ).loc Cert.DeviceReferenceIdeal.main_arg3) = m ((c.tc : Thread Cert.DeviceIdeal.nD Cert.DeviceIdeal.τ).loc Cert.DeviceIdeal.main_arg3)
      ∧ m' ((c.tc : Thread Cert.DeviceReferenceIdeal.nD Cert.DeviceReferenceIdeal.τ).loc Cert.DeviceReferenceIdeal.main_arg4) = m ((c.tc : Thread Cert.DeviceIdeal.nD Cert.DeviceIdeal.τ).loc Cert.DeviceIdeal.main_arg4)) →
    ∃ (v0 : (c : Dev Cert.DeviceIdeal.nD) → Buf (Elt Ideal) ((c.tc : Thread Cert.DeviceIdeal.nD Cert.DeviceIdeal.τ).loc Cert.DeviceIdeal.main_v13)),
      θ_run (Cert.DeviceIdeal.defs (F := Ideal)) (onTc (τ := Cert.DeviceIdeal.τ) (Cert.DeviceIdeal.main (F := Ideal))) ⟨m, fun _ => 0, g⟩ (fun r => ∀ c : Dev Cert.DeviceIdeal.nD,
          r.2.mem ((c.tc : Thread Cert.DeviceIdeal.nD Cert.DeviceIdeal.τ).loc Cert.DeviceIdeal.main_v13) = v0 c
          ∧ r.2.mem ((c.tc : Thread Cert.DeviceIdeal.nD Cert.DeviceIdeal.τ).loc Cert.DeviceIdeal.main_arg0) = m ((c.tc : Thread Cert.DeviceIdeal.nD Cert.DeviceIdeal.τ).loc Cert.DeviceIdeal.main_arg0)
          ∧ r.2.mem ((c.tc : Thread Cert.DeviceIdeal.nD Cert.DeviceIdeal.τ).loc Cert.DeviceIdeal.main_arg1) = m ((c.tc : Thread Cert.DeviceIdeal.nD Cert.DeviceIdeal.τ).loc Cert.DeviceIdeal.main_arg1)
          ∧ r.2.mem ((c.tc : Thread Cert.DeviceIdeal.nD Cert.DeviceIdeal.τ).loc Cert.DeviceIdeal.main_arg2) = m ((c.tc : Thread Cert.DeviceIdeal.nD Cert.DeviceIdeal.τ).loc Cert.DeviceIdeal.main_arg2)
          ∧ r.2.mem ((c.tc : Thread Cert.DeviceIdeal.nD Cert.DeviceIdeal.τ).loc Cert.DeviceIdeal.main_arg3) = m ((c.tc : Thread Cert.DeviceIdeal.nD Cert.DeviceIdeal.τ).loc Cert.DeviceIdeal.main_arg3)
          ∧ r.2.mem ((c.tc : Thread Cert.DeviceIdeal.nD Cert.DeviceIdeal.τ).loc Cert.DeviceIdeal.main_arg4) = m ((c.tc : Thread Cert.DeviceIdeal.nD Cert.DeviceIdeal.τ).loc Cert.DeviceIdeal.main_arg4))
      ∧ θ_run (Cert.DeviceReferenceIdeal.defs (F := Ideal)) (onTc (τ := Cert.DeviceReferenceIdeal.τ) (Cert.DeviceReferenceIdeal.main (F := Ideal))) ⟨m', fun _ => 0, g'⟩ (fun r => ∀ c : Dev Cert.DeviceReferenceIdeal.nD,
          r.2.mem ((c.tc : Thread Cert.DeviceReferenceIdeal.nD Cert.DeviceReferenceIdeal.τ).loc Cert.DeviceReferenceIdeal.main_v51) = v0 c
          ∧ r.2.mem ((c.tc : Thread Cert.DeviceReferenceIdeal.nD Cert.DeviceReferenceIdeal.τ).loc Cert.DeviceReferenceIdeal.main_arg0) = m' ((c.tc : Thread Cert.DeviceReferenceIdeal.nD Cert.DeviceReferenceIdeal.τ).loc Cert.DeviceReferenceIdeal.main_arg0)
          ∧ r.2.mem ((c.tc : Thread Cert.DeviceReferenceIdeal.nD Cert.DeviceReferenceIdeal.τ).loc Cert.DeviceReferenceIdeal.main_arg1) = m' ((c.tc : Thread Cert.DeviceReferenceIdeal.nD Cert.DeviceReferenceIdeal.τ).loc Cert.DeviceReferenceIdeal.main_arg1)
          ∧ r.2.mem ((c.tc : Thread Cert.DeviceReferenceIdeal.nD Cert.DeviceReferenceIdeal.τ).loc Cert.DeviceReferenceIdeal.main_arg2) = m' ((c.tc : Thread Cert.DeviceReferenceIdeal.nD Cert.DeviceReferenceIdeal.τ).loc Cert.DeviceReferenceIdeal.main_arg2)
          ∧ r.2.mem ((c.tc : Thread Cert.DeviceReferenceIdeal.nD Cert.DeviceReferenceIdeal.τ).loc Cert.DeviceReferenceIdeal.main_arg3) = m' ((c.tc : Thread Cert.DeviceReferenceIdeal.nD Cert.DeviceReferenceIdeal.τ).loc Cert.DeviceReferenceIdeal.main_arg3)
          ∧ r.2.mem ((c.tc : Thread Cert.DeviceReferenceIdeal.nD Cert.DeviceReferenceIdeal.τ).loc Cert.DeviceReferenceIdeal.main_arg4) = m' ((c.tc : Thread Cert.DeviceReferenceIdeal.nD Cert.DeviceReferenceIdeal.τ).loc Cert.DeviceReferenceIdeal.main_arg4))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hDevice : Cert.Device.Facts) (hDeviceIdeal : Cert.DeviceIdeal.Facts) (hDeviceReferenceIdeal : Cert.DeviceReferenceIdeal.Facts) (hPre_finite_queries_and_keys : Cert.Pre_finite_queries_and_keys.Facts) (hPre_finite_inputs_and_keys : Cert.Pre_finite_inputs_and_keys.Facts),
    quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ quiescent_AttentionIdeal_pre_finite_queries_and_keys (hAttentionIdeal := hAttentionIdeal) (hPre_finite_queries_and_keys := hPre_finite_queries_and_keys)
    ∧ quiescent_AttentionReferenceIdeal (hAttentionReferenceIdeal := hAttentionReferenceIdeal)
    ∧ quiescent_AttentionReferenceIdeal_pre_finite_queries_and_keys (hAttentionReferenceIdeal := hAttentionReferenceIdeal) (hPre_finite_queries_and_keys := hPre_finite_queries_and_keys)
    ∧ quiescent_Device (hDevice := hDevice)
    ∧ quiescent_DeviceIdeal (hDeviceIdeal := hDeviceIdeal)
    ∧ quiescent_DeviceIdeal_pre_finite_inputs_and_keys (hDeviceIdeal := hDeviceIdeal) (hPre_finite_inputs_and_keys := hPre_finite_inputs_and_keys)
    ∧ quiescent_DeviceReferenceIdeal (hDeviceReferenceIdeal := hDeviceReferenceIdeal)
    ∧ quiescent_DeviceReferenceIdeal_pre_finite_inputs_and_keys (hDeviceReferenceIdeal := hDeviceReferenceIdeal) (hPre_finite_inputs_and_keys := hPre_finite_inputs_and_keys)
    ∧ preserves_Kernel_KernelIdeal
    ∧ algebraic_KernelIdeal_ReferenceIdeal (hKernelIdeal := hKernelIdeal) (hReferenceIdeal := hReferenceIdeal)
    ∧ preserves_Attention_AttentionIdeal
    ∧ algebraic_AttentionIdeal_AttentionReferenceIdeal_pre_finite_queries_and_keys (hAttentionIdeal := hAttentionIdeal) (hAttentionReferenceIdeal := hAttentionReferenceIdeal) (hPre_finite_queries_and_keys := hPre_finite_queries_and_keys)
    ∧ preserves_Device_DeviceIdeal
    ∧ algebraic_DeviceIdeal_DeviceReferenceIdeal_pre_finite_inputs_and_keys (hDeviceIdeal := hDeviceIdeal) (hDeviceReferenceIdeal := hDeviceReferenceIdeal) (hPre_finite_inputs_and_keys := hPre_finite_inputs_and_keys)
-- ==== Pre_finite_inputs_and_keys.lean ====
abbrev S1x2048x1024 : Shape := ⟨3, ![1, 2048, 1024]⟩
abbrev S1024x1024 : Shape := ⟨2, ![1024, 1024]⟩
abbrev S32x2048x128 : Shape := ⟨3, ![32, 2048, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x2048x128 : S_.BroadcastsInDim S32x2048x128 (![] : Fin 0 → Fin S32x2048x128.rank)
  reducesTo_S32x2048x128_S_d0_1_2 : S32x2048x128.ReducesTo [0, 1, 2] S_

variable [Facts]

def fn {F : FTy → Type} [FloatOps F] (main_arg0 : FVec F S1x2048x1024 .bf16) (main_arg1 : FVec F S1024x1024 .bf16) (main_arg2 : FVec F S32x2048x128 .f32) (main_arg3 : FVec F S32x2048x128 .f32) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S32x2048x128 .f32 := Host.absf main_arg2
  let main_cst_2 : FVec F S_ .f32 := constant S_ .f32 0x7F800000#32
  let main_v12 : FVec F S32x2048x128 .f32 := broadcastInDim S32x2048x128 ![] bcast_S_S32x2048x128 main_cst_2
  let main_v13 : IVec S32x2048x128 1 := cmpf .olt main_v11 main_v12
  let main_c_3 : IVec S_ 1 := constantI S_ 1 1#1
  let main_v14 : IVec S_ 1 := (fun x v => Host.reduce IntOp.andi x v reducesTo_S32x2048x128_S_d0_1_2 h_S_) main_v13 main_c_3
  let main_v15 : IVec S_ 1 := andi main_v10 main_v14
  main_v15
-- ==== Pre_finite_queries_and_keys.lean ====
abbrev S8x2048x128 : Shape := ⟨3, ![8, 2048, 128]⟩
abbrev S32x2048x128 : Shape := ⟨3, ![32, 2048, 128]⟩
abbrev S_ : Shape := ⟨0, ![]⟩

class Facts : Prop where
  bitsLt_bf16_f32 : FTy.bits .bf16 < FTy.bits .f32
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_

variable [Facts]

def fn {F : FTy → Type} [FloatOps F] (main_arg0 : FVec F S8x2048x128 .bf16) (main_arg1 : FVec F S32x2048x128 .f32) (main_arg2 : FVec F S32x2048x128 .f32) : IVec S_ 1 :=
  let main_v0 : FVec F S8x2048x128 .f32 := (extf .f32 · bitsLt_bf16_f32) main_arg0
  let main_v1 : FVec F S8x2048x128 .f32 := Host.absf main_v0
  let main_cst : FVec F S_ .f32 := constant S_ .f32 0x7F800000#32
  let main_v2 : FVec F S8x2048x128 .f32 := broadcastInDim S8x2048x128 ![] bcast_S_S8x2048x128 main_cst
  let main_v3 : IVec S8x2048x128 1 := cmpf .olt main_v1 main_v2
  let main_c : IVec S_ 1 := constantI S_ 1 1#1
  let main_v4 : IVec S_ 1 := (fun x v => Host.reduce IntOp.andi x v reducesTo_S8x2048x128_S_d0_1_2 h_S_) main_v3 main_c
  let main_v5 : FVec F S32x2048x128 .f32 := Host.absf main_arg1
  let main_cst_0 : FVec F S_ .f32 := constant S_ .f32 0x7F800000#32
  let main_v6 : FVec F S32x2048x128 .f32 := broadcastInDim S32x2048x128 ![] bcast_S_S32x2048x128 main_cst_0
  let main_v7 : IVec S32x2048x128 1 := cmpf .olt main_v5 main_v6
  let main_c_1 : IVec S_ 1 := constantI S_ 1 1#1
  let main_v8 : IVec S_ 1 := (fun x v => Host.reduce IntOp.andi x v reducesTo_S32x2048x128_S_d0_1_2 h_S_) main_v7 main_c_1
  let main_v9 : IVec S_ 1 := andi main_v4 main_v8
  main_v9
-- ==== Kernel.lean ====
abbrev S32x2048x128 : Shape := ⟨3, ![32, 2048, 128]⟩
abbrev S4 : Shape := ⟨1, ![4]⟩
abbrev S2 : Shape := ⟨1, ![2]⟩
abbrev S1 : Shape := ⟨1, ![1]⟩
abbrev S_ : Shape := ⟨0, ![]⟩
abbrev S8x2048x128 : Shape := ⟨3, ![8, 2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S32x2048x128, .fp8e4m3⟩
  | .hbm, ⟨1, _⟩ => ⟨S32x2048x128, .bf16⟩
  | .hbm, ⟨2, _⟩ => ⟨S32x2048x128, .fp8e4m3⟩
  | .hbm, ⟨3, _⟩ => ⟨S32x2048x128, .bf16⟩
  | _, _ => ⟨S32x2048x128, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_0 : BitVec 32 := 8#32
  let v4 : BitVec 32 := Scalar.muli v2 c8_i32_0
  let c0_i32_3 : BitVec 32 := 0#32
  let c0_i32_4 : BitVec 32 := 0#32
  ![v4.toNat, 0, 0]
def k0_off2 (d0 : Dev nD) (c1_i32_12 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.addi v2 c1_i32_12
  let c4_i32_13 : BitVec 32 := 4#32
  let c0_i32_14 : BitVec 32 := 0#32
  let v16 : BitVec 1 := Scalar.cmpi .eq c4_i32_13 c0_i32_14
  let c1_i32_15 : BitVec 32 := 1#32
  let v17 : BitVec 32 := Scalar.select v16 c1_i32_15 c4_i32_13
  let v18 : BitVec 32 := Scalar.remsi v15 v17
  let c0_i32_17 : BitVec 32 := 0#32
  let v20 : BitVec 1 := Scalar.cmpi .slt v18 c0_i32_17
  let c0_i32_18 : BitVec 32 := 0#32
  let v21 : BitVec 1 := Scalar.cmpi .slt v17 c0_i32_18
  let v22 : BitVec 1 := Scalar.xori v20 v21
  let c0_i32_16 : BitVec 32 := 0#32
  let v19 : BitVec 1 := Scalar.cmpi .ne v18 c0_i32_16
  let v23 : BitVec 1 := Scalar.andi v22 v19
  let v24 : BitVec 32 := Scalar.addi v18 v17
  let v25 : BitVec 32 := Scalar.select v23 v24 v18
  let c8_i32_19 : BitVec 32 := 8#32
  let v26 : BitVec 32 := Scalar.muli v25 c8_i32_19
  let c0_i32_29 : BitVec 32 := 0#32
  let c0_i32_30 : BitVec 32 := 0#32
  ![v26.toNat, 0, 0]
def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v15 : BitVec 32 := Scalar.addi v2 c1_i32_12
  let c4_i32_13 : BitVec 32 := 4#32
  let c0_i32_14 : BitVec 32 := 0#32
  let v16 : BitVec 1 := Scalar.cmpi .eq c4_i32_13 c0_i32_14
  let c1_i32_15 : BitVec 32 := 1#32
  let v17 : BitVec 32 := Scalar.select v16 c1_i32_15 c4_i32_13
  let v18 : BitVec 32 := Scalar.remsi v15 v17
  let c0_i32_17 : BitVec 32 := 0#32
  let v20 : BitVec 1 := Scalar.cmpi .slt v18 c0_i32_17
  let c0_i32_18 : BitVec 32 := 0#32
  let v21 : BitVec 1 := Scalar.cmpi .slt v17 c0_i32_18
  let v22 : BitVec 1 := Scalar.xori v20 v21
  let c0_i32_16 : BitVec 32 := 0#32
  let v19 : BitVec 1 := Scalar.cmpi .ne v18 c0_i32_16
  let v23 : BitVec 1 := Scalar.andi v22 v19
  let v24 : BitVec 32 := Scalar.addi v18 v17
  let v25 : BitVec 32 := Scalar.select v23 v24 v18
  let c1_i32_25 : BitVec 32 := 1#32
  let v30 : BitVec 32 := Scalar.muli v25 c1_i32_25
  let v31 : BitVec 32 := Scalar.addi c0_i32_26 v30
  v31.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v15 : BitVec 32 := Scalar.addi v2 c1_i32_12
  let c4_i32_13 : BitVec 32 := 4#32
  let c0_i32_14 : BitVec 32 := 0#32
  let v16 : BitVec 1 := Scalar.cmpi .eq c4_i32_13 c0_i32_14
  let c1_i32_15 : BitVec 32 := 1#32
  let v17 : BitVec 32 := Scalar.select v16 c1_i32_15 c4_i32_13
  let v18 : BitVec 32 := Scalar.remsi v15 v17
  let c0_i32_17 : BitVec 32 := 0#32
  let v20 : BitVec 1 := Scalar.cmpi .slt v18 c0_i32_17
  let c0_i32_18 : BitVec 32 := 0#32
  let v21 : BitVec 1 := Scalar.cmpi .slt v17 c0_i32_18
  let v22 : BitVec 1 := Scalar.xori v20 v21
  let c0_i32_16 : BitVec 32 := 0#32
  let v19 : BitVec 1 := Scalar.cmpi .ne v18 c0_i32_16
  let v23 : BitVec 1 := Scalar.andi v22 v19
  let v24 : BitVec 32 := Scalar.addi v18 v17
  let v25 : BitVec 32 := Scalar.select v23 v24 v18
  let c1_i32_33 : BitVec 32 := 1#32
  let v38 : BitVec 32 := Scalar.muli v25 c1_i32_33
  let v39 : BitVec 32 := Scalar.addi c0_i32_34 v38
  v39.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v46 : BitVec 32 := Scalar.addi v2 c2_i32
  let c4_i32_39 : BitVec 32 := 4#32
  let c0_i32_40 : BitVec 32 := 0#32
  let v47 : BitVec 1 := Scalar.cmpi .eq c4_i32_39 c0_i32_40
  let c1_i32_41 : BitVec 32 := 1#32
  let v48 : BitVec 32 := Scalar.select v47 c1_i32_41 c4_i32_39
  let v49 : BitVec 32 := Scalar.remsi v46 v48
  let c0_i32_43 : BitVec 32 := 0#32
  let v51 : BitVec 1 := Scalar.cmpi .slt v49 c0_i32_43
  let c0_i32_44 : BitVec 32 := 0#32
  let v52 : BitVec 1 := Scalar.cmpi .slt v48 c0_i32_44
  let v53 : BitVec 1 := Scalar.xori v51 v52
  let c0_i32_42 : BitVec 32 := 0#32
  let v50 : BitVec 1 := Scalar.cmpi .ne v49 c0_i32_42
  let v54 : BitVec 1 := Scalar.andi v53 v50
  let v55 : BitVec 32 := Scalar.addi v49 v48
  let v56 : BitVec 32 := Scalar.select v54 v55 v49
  let c1_i32_51 : BitVec 32 := 1#32
  let v61 : BitVec 32 := Scalar.muli v56 c1_i32_51
  let v62 : BitVec 32 := Scalar.addi c0_i32_52 v61
  v62.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v46 : BitVec 32 := Scalar.addi v2 c2_i32
  let c4_i32_39 : BitVec 32 := 4#32
  let c0_i32_40 : BitVec 32 := 0#32
  let v47 : BitVec 1 := Scalar.cmpi .eq c4_i32_39 c0_i32_40
  let c1_i32_41 : BitVec 32 := 1#32
  let v48 : BitVec 32 := Scalar.select v47 c1_i32_41 c4_i32_39
  let v49 : BitVec 32 := Scalar.remsi v46 v48
  let c0_i32_43 : BitVec 32 := 0#32
  let v51 : BitVec 1 := Scalar.cmpi .slt v49 c0_i32_43
  let c0_i32_44 : BitVec 32 := 0#32
  let v52 : BitVec 1 := Scalar.cmpi .slt v48 c0_i32_44
  let v53 : BitVec 1 := Scalar.xori v51 v52
  let c0_i32_42 : BitVec 32 := 0#32
  let v50 : BitVec 1 := Scalar.cmpi .ne v49 c0_i32_42
  let v54 : BitVec 1 := Scalar.andi v53 v50
  let v55 : BitVec 32 := Scalar.addi v49 v48
  let v56 : BitVec 32 := Scalar.select v54 v55 v49
  let c1_i32_59 : BitVec 32 := 1#32
  let v69 : BitVec 32 := Scalar.muli v56 c1_i32_59
  let v70 : BitVec 32 := Scalar.addi c0_i32_60 v69
  v70.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v77 : BitVec 32 := Scalar.addi v2 c3_i32
  let c4_i32_65 : BitVec 32 := 4#32
  let c0_i32_66 : BitVec 32 := 0#32
  let v78 : BitVec 1 := Scalar.cmpi .eq c4_i32_65 c0_i32_66
  let c1_i32_67 : BitVec 32 := 1#32
  let v79 : BitVec 32 := Scalar.select v78 c1_i32_67 c4_i32_65
  let v80 : BitVec 32 := Scalar.remsi v77 v79
  let c0_i32_69 : BitVec 32 := 0#32
  let v82 : BitVec 1 := Scalar.cmpi .slt v80 c0_i32_69
  let c0_i32_70 : BitVec 32 := 0#32
  let v83 : BitVec 1 := Scalar.cmpi .slt v79 c0_i32_70
  let v84 : BitVec 1 := Scalar.xori v82 v83
  let c0_i32_68 : BitVec 32 := 0#32
  let v81 : BitVec 1 := Scalar.cmpi .ne v80 c0_i32_68
  let v85 : BitVec 1 := Scalar.andi v84 v81
  let v86 : BitVec 32 := Scalar.addi v80 v79
  let v87 : BitVec 32 := Scalar.select v85 v86 v80
  let c1_i32_77 : BitVec 32 := 1#32
  let v92 : BitVec 32 := Scalar.muli v87 c1_i32_77
  let v93 : BitVec 32 := Scalar.addi c0_i32_78 v92
  v93.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v77 : BitVec 32 := Scalar.addi v2 c3_i32
  let c4_i32_65 : BitVec 32 := 4#32
  let c0_i32_66 : BitVec 32 := 0#32
  let v78 : BitVec 1 := Scalar.cmpi .eq c4_i32_65 c0_i32_66
  let c1_i32_67 : BitVec 32 := 1#32
  let v79 : BitVec 32 := Scalar.select v78 c1_i32_67 c4_i32_65
  let v80 : BitVec 32 := Scalar.remsi v77 v79
  let c0_i32_69 : BitVec 32 := 0#32
  let v82 : BitVec 1 := Scalar.cmpi .slt v80 c0_i32_69
  let c0_i32_70 : BitVec 32 := 0#32
  let v83 : BitVec 1 := Scalar.cmpi .slt v79 c0_i32_70
  let v84 : BitVec 1 := Scalar.xori v82 v83
  let c0_i32_68 : BitVec 32 := 0#32
  let v81 : BitVec 1 := Scalar.cmpi .ne v80 c0_i32_68
  let v85 : BitVec 1 := Scalar.andi v84 v81
  let v86 : BitVec 32 := Scalar.addi v80 v79
  let v87 : BitVec 32 := Scalar.select v85 v86 v80
  let c1_i32_85 : BitVec 32 := 1#32
  let v100 : BitVec 32 := Scalar.muli v87 c1_i32_85
  let v101 : BitVec 32 := Scalar.addi c0_i32_86 v100
  v101.toNat
-- ==== ReferenceIdeal.lean ====
abbrev S32x8192x128 : Shape := ⟨3, ![32, 8192, 128]⟩
abbrev S4x8x4x2048x128 : Shape := ⟨5, ![4, 8, 4, 2048, 128]⟩
abbrev S4x4x8x2048x128 : Shape := ⟨5, ![4, 4, 8, 2048, 128]⟩
abbrev S128x2048x128 : Shape := ⟨3, ![128, 2048, 128]⟩

abbrev nBuf : Space → Nat
  | .hbm => 8
  | .vmem => 0
  | .smem => 0
  | _ => 0

abbrev bufTy : (tb : Table) → Fin (tcTables nBuf tb) → BufTy
  | .hbm, ⟨0, _⟩ => ⟨S32x8192x128, .fp8e4m3⟩
  | .hbm, ⟨1, _⟩ => ⟨S32x8192x128, .bf16⟩
  | .hbm, ⟨2, _⟩ => ⟨S4x8x4x2048x128, .fp8e4m3⟩
  | .hbm, ⟨3, _⟩ => ⟨S4x4x8x2048x128, .fp8e4m3⟩
  | .hbm, ⟨4, _⟩ => ⟨S128x2048x128, .fp8e4m3⟩
  | .hbm, ⟨5, _⟩ => ⟨S4x8x4x2048x128, .bf16⟩
  | .hbm, ⟨6, _⟩ => ⟨S4x4x8x2048x128, .bf16⟩
  | .hbm, ⟨7, _⟩ => ⟨S128x2048x128, .bf16⟩
  | _, _ => ⟨S32x8192x128, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Attention.lean ====
abbrev S8x2048x128 : Shape := ⟨3, ![8, 2048, 128]⟩
abbrev S32x2048x128 : Shape := ⟨3, ![32, 2048, 128]⟩
abbrev S4x8x2048x128 : Shape := ⟨4, ![4, 8, 2048, 128]⟩
abbrev S1x2048x128 : Shape := ⟨3, ![1, 2048, 128]⟩
abbrev S4x1x2048x128 : Shape := ⟨4, ![4, 1, 2048, 128]⟩
abbrev S1x1x2048x128 : Shape := ⟨4, ![1, 1, 2048, 128]⟩
abbrev S2048x128 : Shape := ⟨2, ![2048, 128]⟩
abbrev S1x1x256x128 : Shape := ⟨4, ![1, 1, 256, 128]⟩
abbrev S256x128 : Shape := ⟨2, ![256, 128]⟩
abbrev S2304x128 : Shape := ⟨2, ![2304, 128]⟩
abbrev S1x512x128 : Shape := ⟨3, ![1, 512, 128]⟩
abbrev S512x128 : Shape := ⟨2, ![512, 128]⟩
abbrev S768x128 : Shape := ⟨2, ![768, 128]⟩
abbrev S512x768 : Shape := ⟨2, ![512, 768]⟩
abbrev S512 : Shape := ⟨1, ![512]⟩
abbrev S512x1 : Shape := ⟨2, ![512, 1]⟩
abbrev S128x128 : Shape := ⟨2, ![128, 128]⟩
abbrev S8192x128 : Shape := ⟨2, ![8192, 128]⟩
abbrev S1x32x128 : Shape := ⟨3, ![1, 32, 128]⟩
abbrev S32x128 : Shape := ⟨2, ![32, 128]⟩
abbrev S32x8192 : Shape := ⟨2, ![32, 8192]⟩
abbrev S32 : Shape := ⟨1, ![32]⟩
abbrev S32x1 : Shape := ⟨2, ![32, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x128, .bf16⟩
  | .hbm, ⟨1, _⟩ => ⟨S32x2048x128, .f32⟩
  | .hbm, ⟨2, _⟩ => ⟨S32x2048x128, .f32⟩
  | .hbm, ⟨3, _⟩ => ⟨S32x2048x128, .fp8e4m3⟩
  | .hbm, ⟨4, _⟩ => ⟨S32x2048x128, .bf16⟩
  | .hbm, ⟨5, _⟩ => ⟨S4x8x2048x128, .fp8e4m3⟩
  | .hbm, ⟨6, _⟩ => ⟨S4x8x2048x128, .bf16⟩
  | .hbm, ⟨7, _⟩ => ⟨S8x2048x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S4x1x2048x128, .fp8e4m3⟩
  | .local _ .vmem, ⟨3, _⟩ => ⟨S4x1x2048x128, .fp8e4m3⟩
  | .local _ .vmem, ⟨4, _⟩ => ⟨S4x1x2048x128, .bf16⟩
  | .local _ .vmem, ⟨5, _⟩ => ⟨S4x1x2048x128, .bf16⟩
  | .local _ .vmem, ⟨6, _⟩ => ⟨S1x2048x128, .bf16⟩
  | .local _ .vmem, ⟨7, _⟩ => ⟨S1x2048x128, .bf16⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x2048x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttentionIdeal.lean ====
variable {F : FTy → Type} [FloatOps F] [Named F]
def κ : String → Option EReal := fun
  | "mask" => some ⊥
  | _ => none
-- ==== AttentionReferenceIdeal.lean ====
abbrev S8x2048x128 : Shape := ⟨3, ![8, 2048, 128]⟩
abbrev S32x2048x128 : Shape := ⟨3, ![32, 2048, 128]⟩
abbrev S4x8x2048x128 : Shape := ⟨4, ![4, 8, 2048, 128]⟩
abbrev S8x4x2048x128 : Shape := ⟨4, ![8, 4, 2048, 128]⟩
abbrev S8x8192x128 : Shape := ⟨3, ![8, 8192, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S8x2048x8192 : Shape := ⟨3, ![8, 2048, 8192]⟩
abbrev S1x2048x8192 : Shape := ⟨3, ![1, 2048, 8192]⟩
abbrev S8x2048 : Shape := ⟨2, ![8, 2048]⟩
abbrev S8x2048x1 : Shape := ⟨3, ![8, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x128, .bf16⟩
  | .hbm, ⟨1, _⟩ => ⟨S32x2048x128, .f32⟩
  | .hbm, ⟨2, _⟩ => ⟨S32x2048x128, .f32⟩
  | .hbm, ⟨3, _⟩ => ⟨S4x8x2048x128, .f32⟩
  | .hbm, ⟨4, _⟩ => ⟨S8x4x2048x128, .f32⟩
  | .hbm, ⟨5, _⟩ => ⟨S8x8192x128, .f32⟩
  | .hbm, ⟨6, _⟩ => ⟨S4x8x2048x128, .f32⟩
  | .hbm, ⟨7, _⟩ => ⟨S8x4x2048x128, .f32⟩
  | .hbm, ⟨8, _⟩ => ⟨S8x8192x128, .f32⟩
  | .hbm, ⟨9, _⟩ => ⟨S2048, .i32⟩
  | .hbm, ⟨10, _⟩ => ⟨S2048x1, .i32⟩
  | .hbm, ⟨11, _⟩ => ⟨S8192, .i32⟩
  | .hbm, ⟨12, _⟩ => ⟨S1x8192, .i32⟩
  | .hbm, ⟨13, _⟩ => ⟨S2048x8192, .i32⟩
  | .hbm, ⟨14, _⟩ => ⟨S2048x8192, .i32⟩
  | .hbm, ⟨15, _⟩ => ⟨S2048x8192, .i32⟩
  | .hbm, ⟨16, _⟩ => ⟨S2048x8192, .i32⟩
  | .hbm, ⟨17, _⟩ => ⟨S_, .i32⟩
  | .hbm, ⟨18, _⟩ => ⟨S2048x8192, .i32⟩
  | .hbm, ⟨19, _⟩ => ⟨S2048x8192, .i1⟩
  | .hbm, ⟨20, _⟩ => ⟨S_, .i32⟩
  | .hbm, ⟨21, _⟩ => ⟨S1x8192, .i32⟩
  | .hbm, ⟨22, _⟩ => ⟨S1x8192, .i1⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S2048x8192, .i1⟩
  | .hbm, ⟨27, _⟩ => ⟨S2048x8192, .i1⟩
  | .hbm, ⟨28, _⟩ => ⟨S2048x8192, .i1⟩
  | .hbm, ⟨29, _⟩ => ⟨S2048x8192, .i1⟩
  | .hbm, ⟨30, _⟩ => ⟨S8x2048x128, .f32⟩
  | .hbm, ⟨31, _⟩ => ⟨S8x2048x8192, .f32⟩
  | .hbm, ⟨32, _⟩ => ⟨S_, .f32⟩
  | .hbm, ⟨33, _⟩ => ⟨S8x2048x8192, .f32⟩
  | .hbm, ⟨34, _⟩ => ⟨S8x2048x8192, .f32⟩
  | .hbm, ⟨35, _⟩ => ⟨S1x2048x8192, .i1⟩
  | .hbm, ⟨36, _⟩ => ⟨S_, .f32⟩
  | .hbm, ⟨37, _⟩ => ⟨S_, .f32⟩
  | .hbm, ⟨38, _⟩ => ⟨S8x2048x8192, .i1⟩
  | .hbm, ⟨39, _⟩ => ⟨S8x2048x8192, .f32⟩
  | .hbm, ⟨40, _⟩ => ⟨S8x2048x8192, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x8192, .f32⟩
  | .hbm, ⟨45, _⟩ => ⟨S8x2048x8192, .f32⟩
  | .hbm, ⟨46, _⟩ => ⟨S8x2048x8192, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x8192, .f32⟩
  | .hbm, ⟨51, _⟩ => ⟨S8x2048x8192, .f32⟩
  | .hbm, ⟨52, _⟩ => ⟨S8x2048x128, .f32⟩
  | .hbm, ⟨53, _⟩ => ⟨S8x2048x128, .bf16⟩
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Device.lean ====
abbrev S1x2048x1024 : Shape := ⟨3, ![1, 2048, 1024]⟩
abbrev S1024x1024 : Shape := ⟨2, ![1024, 1024]⟩
abbrev S32x2048x128 : Shape := ⟨3, ![32, 2048, 128]⟩
abbrev S2048x1024 : Shape := ⟨2, ![2048, 1024]⟩
abbrev S2048x8x128 : Shape := ⟨3, ![2048, 8, 128]⟩
abbrev S8x2048x128 : Shape := ⟨3, ![8, 2048, 128]⟩
abbrev S4x8x2048x128 : Shape := ⟨4, ![4, 8, 2048, 128]⟩
abbrev S1x2048x128 : Shape := ⟨3, ![1, 2048, 128]⟩
abbrev S4x1x2048x128 : Shape := ⟨4, ![4, 1, 2048, 128]⟩
abbrev S1x1x2048x128 : Shape := ⟨4, ![1, 1, 2048, 128]⟩
abbrev S2048x128 : Shape := ⟨2, ![2048, 128]⟩
abbrev S1x1x256x128 : Shape := ⟨4, ![1, 1, 256, 128]⟩
abbrev S256x128 : Shape := ⟨2, ![256, 128]⟩
abbrev S2304x128 : Shape := ⟨2, ![2304, 128]⟩
abbrev S1x512x128 : Shape := ⟨3, ![1, 512, 128]⟩
abbrev S512x128 : Shape := ⟨2, ![512, 128]⟩
abbrev S768x128 : Shape := ⟨2, ![768, 128]⟩
abbrev S512x768 : Shape := ⟨2, ![512, 768]⟩
abbrev S512 : Shape := ⟨1, ![512]⟩
abbrev S512x1 : Shape := ⟨2, ![512, 1]⟩
abbrev S128x128 : Shape := ⟨2, ![128, 128]⟩
abbrev S8192x128 : Shape := ⟨2, ![8192, 128]⟩
abbrev S1x32x128 : Shape := ⟨3, ![1, 32, 128]⟩
abbrev S32x128 : Shape := ⟨2, ![32, 128]⟩
abbrev S32x8192 : Shape := ⟨2, ![32, 8192]⟩
abbrev S32 : Shape := ⟨1, ![32]⟩
abbrev S32x1 : Shape := ⟨2, ![32, 1]⟩

abbrev nBuf : Space → Nat
  | .hbm => 19
  | .vmem => 8
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S32x2048x128, .f32⟩
  | .hbm, ⟨3, _⟩ => ⟨S32x2048x128, .f32⟩
  | .hbm, ⟨4, _⟩ => ⟨S1024x1024, .bf16⟩
  | .hbm, ⟨5, _⟩ => ⟨S2048x1024, .bf16⟩
  | .hbm, ⟨6, _⟩ => ⟨S2048x1024, .f32⟩
  | .hbm, ⟨7, _⟩ => ⟨S2048x1024, .bf16⟩
  | .hbm, ⟨8, _⟩ => ⟨S2048x8x128, .bf16⟩
  | .hbm, ⟨9, _⟩ => ⟨S8x2048x128, .bf16⟩
  | .hbm, ⟨10, _⟩ => ⟨S32x2048x128, .fp8e4m3⟩
  | .hbm, ⟨11, _⟩ => ⟨S32x2048x128, .bf16⟩
  | .hbm, ⟨12, _⟩ => ⟨S4x8x2048x128, .fp8e4m3⟩
  | .hbm, ⟨13, _⟩ => ⟨S4x8x2048x128, .bf16⟩
  | .hbm, ⟨14, _⟩ => ⟨S8x2048x128, .bf16⟩
  | .hbm, ⟨15, _⟩ => ⟨S2048x8x128, .bf16⟩
  | .hbm, ⟨16, _⟩ => ⟨S2048x1024, .bf16⟩
  | .hbm, ⟨17, _⟩ => ⟨S2048x1024, .f32⟩
  | .hbm, ⟨18, _⟩ => ⟨S2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S4x1x2048x128, .fp8e4m3⟩
  | .local _ .vmem, ⟨3, _⟩ => ⟨S4x1x2048x128, .fp8e4m3⟩
  | .local _ .vmem, ⟨4, _⟩ => ⟨S4x1x2048x128, .bf16⟩
  | .local _ .vmem, ⟨5, _⟩ => ⟨S4x1x2048x128, .bf16⟩
  | .local _ .vmem, ⟨6, _⟩ => ⟨S1x2048x128, .bf16⟩
  | .local _ .vmem, ⟨7, _⟩ => ⟨S1x2048x128, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x2048x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DeviceIdeal.lean ====
variable {F : FTy → Type} [FloatOps F] [Named F]
def κ : String → Option EReal := fun
  | "mask" => some ⊥
  | _ => none
-- ==== DeviceReferenceIdeal.lean ====
abbrev S1x2048x1024 : Shape := ⟨3, ![1, 2048, 1024]⟩
abbrev S1024x1024 : Shape := ⟨2, ![1024, 1024]⟩
abbrev S32x2048x128 : Shape := ⟨3, ![32, 2048, 128]⟩
abbrev S2048x1024 : Shape := ⟨2, ![2048, 1024]⟩
abbrev S2048x8x128 : Shape := ⟨3, ![2048, 8, 128]⟩
abbrev S8x2048x128 : Shape := ⟨3, ![8, 2048, 128]⟩
abbrev S4x8x2048x128 : Shape := ⟨4, ![4, 8, 2048, 128]⟩
abbrev S8x4x2048x128 : Shape := ⟨4, ![8, 4, 2048, 128]⟩
abbrev S8x8192x128 : Shape := ⟨3, ![8, 8192, 128]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S_ : Shape := ⟨0, ![]⟩
abbrev S8x2048x8192 : Shape := ⟨3, ![8, 2048, 8192]⟩
abbrev S1x2048x8192 : Shape := ⟨3, ![1, 2048, 8192]⟩
abbrev S8x2048 : Shape := ⟨2, ![8, 2048]⟩
abbrev S8x2048x1 : Shape := ⟨3, ![8, 2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S32x2048x128, .f32⟩
  | .hbm, ⟨3, _⟩ => ⟨S32x2048x128, .f32⟩
  | .hbm, ⟨4, _⟩ => ⟨S1024x1024, .bf16⟩
  | .hbm, ⟨5, _⟩ => ⟨S2048x1024, .bf16⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x8x128, .f32⟩
  | .hbm, ⟨10, _⟩ => ⟨S8x2048x128, .f32⟩
  | .hbm, ⟨11, _⟩ => ⟨S4x8x2048x128, .f32⟩
  | .hbm, ⟨12, _⟩ => ⟨S8x4x2048x128, .f32⟩
  | .hbm, ⟨13, _⟩ => ⟨S8x8192x128, .f32⟩
  | .hbm, ⟨14, _⟩ => ⟨S4x8x2048x128, .f32⟩
  | .hbm, ⟨15, _⟩ => ⟨S8x4x2048x128, .f32⟩
  | .hbm, ⟨16, _⟩ => ⟨S8x8192x128, .f32⟩
  | .hbm, ⟨17, _⟩ => ⟨S2048, .i32⟩
  | .hbm, ⟨18, _⟩ => ⟨S2048x1, .i32⟩
  | .hbm, ⟨19, _⟩ => ⟨S8192, .i32⟩
  | .hbm, ⟨20, _⟩ => ⟨S1x8192, .i32⟩
  | .hbm, ⟨21, _⟩ => ⟨S2048x8192, .i32⟩
  | .hbm, ⟨22, _⟩ => ⟨S2048x8192, .i32⟩
  | .hbm, ⟨23, _⟩ => ⟨S2048x8192, .i32⟩
  | .hbm, ⟨24, _⟩ => ⟨S2048x8192, .i32⟩
  | .hbm, ⟨25, _⟩ => ⟨S_, .i32⟩
  | .hbm, ⟨26, _⟩ => ⟨S2048x8192, .i32⟩
  | .hbm, ⟨27, _⟩ => ⟨S2048x8192, .i1⟩
  | .hbm, ⟨28, _⟩ => ⟨S_, .i32⟩
  | .hbm, ⟨29, _⟩ => ⟨S1x8192, .i32⟩
  | .hbm, ⟨30, _⟩ => ⟨S1x8192, .i1⟩
  | .hbm, ⟨31, _⟩ => ⟨S_, .i32⟩
  | .hbm, ⟨32, _⟩ => ⟨S2048x1, .i32⟩
  | .hbm, ⟨33, _⟩ => ⟨S2048x1, .i1⟩
  | .hbm, ⟨34, _⟩ => ⟨S2048x8192, .i1⟩
  | .hbm, ⟨35, _⟩ => ⟨S2048x8192, .i1⟩
  | .hbm, ⟨36, _⟩ => ⟨S2048x8192, .i1⟩
  | .hbm, ⟨37, _⟩ => ⟨S2048x8192, .i1⟩
  | .hbm, ⟨38, _⟩ => ⟨S8x2048x8192, .f32⟩
  | .hbm, ⟨39, _⟩ => ⟨S_, .f32⟩
  | .hbm, ⟨40, _⟩ => ⟨S8x2048x8192, .f32⟩
  | .hbm, ⟨41, _⟩ => ⟨S8x2048x8192, .f32⟩
  | .hbm, ⟨42, _⟩ => ⟨S1x2048x8192, .i1⟩
  | .hbm, ⟨43, _⟩ => ⟨S_, .f32⟩
  | .hbm, ⟨44, _⟩ => ⟨S_, .f32⟩
  | .hbm, ⟨45, _⟩ => ⟨S8x2048x8192, .i1⟩
  | .hbm, ⟨46, _⟩ => ⟨S8x2048x8192, .f32⟩
  | .hbm, ⟨47, _⟩ => ⟨S8x2048x8192, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S8x2048x8192, .f32⟩
  | .hbm, ⟨52, _⟩ => ⟨S8x2048x8192, .f32⟩
  | .hbm, ⟨53, _⟩ => ⟨S8x2048x8192, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x8192, .f32⟩
  | .hbm, ⟨58, _⟩ => ⟨S8x2048x8192, .f32⟩
  | .hbm, ⟨59, _⟩ => ⟨S8x2048x128, .f32⟩
  | .hbm, ⟨60, _⟩ => ⟨S8x2048x128, .bf16⟩
  | .hbm, ⟨61, _⟩ => ⟨S8x2048x128, .f32⟩
  | .hbm, ⟨62, _⟩ => ⟨S2048x8x128, .f32⟩
  | .hbm, ⟨63, _⟩ => ⟨S2048x1024, .f32⟩
  | .hbm, ⟨64, _⟩ => ⟨S1024x1024, .f32⟩
  | .hbm, ⟨65, _⟩ => ⟨S2048x1024, .f32⟩
  | .hbm, ⟨66, _⟩ => ⟨S2048x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.Slabs.lean ====
/-
  The slabs of eight rows of an array of 32 rows: how a whole array divides into its four slabs, and what the
  array contains once every slab has been copied from where the exchange takes it.
-/
module

public import proofs.«01_k».proof.Defs
public import proofs.«01_k».proof.Proof.Gen.KernelIdeal.Launch
public import Idealize.ShloMosaic.Lib.Pipeline.Launch
public import Idealize.ShloMosaic.Lib.Pipeline.ValueKit.Geometry

@[expose] public section

noncomputable section

namespace Cert.A2a

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own copy of the rounds and the exchange's. -/
abbrev UU : Type := UR sig nD τ × UR sig nD τ

local notation "𝕄" => MT nD τ sig Unit (Elt F) ℕ UU ℕ

/-! ## The slabs -/

theorem slab_inb (p : Dev nD) : ∀ a, (![8 * p.val, 0, 0] : Fin 3 → Nat) a + S8x2048x128.size a ≤ S32x2048x128.size a := by
  revert p; decide +kernel

/-- Rows `8 p … 8 p + 7`. -/
abbrev rows (p : Dev nD) : Rect S32x2048x128 := Rect.unit (s := S32x2048x128) ![8 * p.val, 0, 0] S8x2048x128.size (slab_inb p)

/-- Those rows of the array `b`. -/
abbrev slab {e : EltTy} (b : Memref sig .tc .hbm S32x2048x128 e) (p : Dev nD) : Memref sig .tc .hbm S8x2048x128 e :=
  b.slice (rows p) (fun _ => rfl)

theorem mem_rows (p : Dev nD) (i : S32x2048x128.Idx) : i ∈ (rows p).set ↔ (i 0).val / 8 = p.val := by
  have h0 := (i 0).isLt
  rw [Rect.mem_set_unit]
  constructor
  · intro h
    have := h 0
    simp at this
    have h2 : S8x2048x128.size 0 = 8 := rfl
    omega
  · intro h a
    fin_cases a
    · show 8 * p.val ≤ (i 0).val ∧ (i 0).val < 8 * p.val + 8
      omega
    · exact ⟨Nat.zero_le _, by simpa using (i 1).isLt⟩
    · exact ⟨Nat.zero_le _, by simpa using (i 2).isLt⟩

theorem rows_disjoint {p p' : Dev nD} (h : p ≠ p') : Disjoint (rows p).set (rows p').set :=
  Finset.disjoint_left.mpr fun i hi hi' => h (Fin.ext (((mem_rows p i).mp hi).symm.trans ((mem_rows p' i).mp hi')))

theorem rows_cover : (Finset.univ : Finset (Dev nD)).biUnion (fun p => (rows p).set) = Finset.univ := by
  ext i
  simp only [Finset.mem_biUnion, Finset.mem_univ, true_and, iff_true]
  have h0 : (i 0).val < 32 := (i 0).isLt
  exact ⟨⟨(i 0).val / 8, by show _ < 4; omega⟩, (mem_rows _ i).mpr rfl⟩

/-- Slab `p` of `b` on device `c`, held outright, the array's contents being `f` there. -/
def slabPts {e : EltTy} (b : Memref sig .tc .hbm S32x2048x128 e) (p c : Dev nD) (f : Buf (Elt F) (b.view.loc (c : Thread nD τ))) : sProp 𝕄 :=
  (slab b p).view.loc (c : Thread nD τ) ↦[(slab b p).view.set]{fullShare} f

omit [FloatOps F] in
instance slabPts_storable {e : EltTy} (b : Memref sig .tc .hbm S32x2048x128 e) (p c : Dev nD) (f) :
    BI.Storable (upEmb : UEmb _ 𝕄) (slabPts (F := F) b p c f) := by unfold slabPts; infer_instance

omit [FloatOps F] in
/-- A whole array is its four slabs. -/
theorem whole_slabs {e : EltTy} (b : Memref sig .tc .hbm S32x2048x128 e) (hb : b.view.set = Finset.univ) (c : Dev nD)
    (f : Buf (Elt F) (b.view.loc (c : Thread nD τ))) :
    (b.view.loc (c : Thread nD τ) ↦{fullShare} f : sProp 𝕄) = bigSep Finset.univ fun p : Dev nD => slabPts b p c f := by
  have hset (p : Dev nD) : (slab b p).view.set = (rows p).set.map b.view.emb := View.set_slice b.view (rows p)
  have hcov : (Finset.univ : Finset (Dev nD)).biUnion (β := b.view.ty.Idx) (fun p => (slab b p).view.set) = Finset.univ := by
    have h : (Finset.univ : Finset (Dev nD)).biUnion (β := b.view.ty.Idx) (fun p => (slab b p).view.set)
        = ((Finset.univ : Finset (Dev nD)).biUnion fun p => (rows p).set).map b.view.emb := by
      ext i
      simp only [hset, Finset.mem_biUnion, Finset.mem_map, Finset.mem_univ, true_and]
      constructor
      · rintro ⟨p, j, hj, rfl⟩; exact ⟨j, ⟨p, hj⟩, rfl⟩
      · rintro ⟨j, ⟨p, hj⟩, rfl⟩; exact ⟨p, j, hj, rfl⟩
    rw [h, rows_cover]; exact hb
  have hd : ∀ p ∈ (Finset.univ : Finset (Dev nD)), ∀ p' ∈ (Finset.univ : Finset (Dev nD)), p ≠ p' →
      Disjoint (slab b p).view.set (slab b p').view.set := fun p _ p' _ h => by
    rw [hset, hset]; exact (Finset.disjoint_map _).mpr (rows_disjoint h)
  have h : (b.view.loc (c : Thread nD τ) ↦[(Finset.univ : Finset (Dev nD)).biUnion (β := b.view.ty.Idx) fun p => (slab b p).view.set]{fullShare} f : sProp 𝕄)
      = bigSep Finset.univ fun p : Dev nD => b.view.loc (c : Thread nD τ) ↦[(slab b p).view.set]{fullShare} f :=
    pointsTo_biUnion Finset.univ _ hd
  rw [hcov] at h
  exact h

omit [FloatOps F] in
/-- A slab copied over slab `p'`: the array contains `g` there, where `g` agrees with what was copied. -/
theorem slab_landed {e : EltTy} (b b' : Memref sig .tc .hbm S32x2048x128 e) (p p' s c : Dev nD)
    (fs : Buf (Elt F) (b.view.loc (s : Thread nD τ))) (fd g : Buf (Elt F) (b'.view.loc (c : Thread nD τ)))
    (h : ∀ y, (slab b' p').view.read (Elt F) g y = (slab b p).view.read (Elt F) fs y) :
    ((slab b' p').view.loc (c : Thread nD τ) ↦[(slab b' p').view.set]{fullShare}
        ((slab b' p').view.write (Elt F) fd ((slab b p).view.read (Elt F) fs) Finset.univ) : sProp 𝕄)
      = slabPts b' p' c g := by
  refine pointsTo_congr fun i hi => ?_
  obtain ⟨y, -, rfl⟩ := Finset.mem_map.mp hi
  rw [View.write_emb_of_mem _ _ (Finset.mem_univ y), ← h y, View.read_apply, cast_cast, cast_eq]

/-! ## The contents after the exchange -/

/-- The place, in the rows `8 p …`, of an index of the array: the same row within its slab. -/
def place (p : Dev nD) (i : S32x2048x128.Idx) : S32x2048x128.Idx
  | ⟨0, _⟩ => ⟨8 * p.val + (i 0).val % 8, by show _ < 32; have : p.val < 4 := p.isLt; omega⟩
  | ⟨1, _⟩ => i 1
  | ⟨2, _⟩ => i 2

/-- The slab an index lies in. -/
def slabOf (i : S32x2048x128.Idx) : Dev nD := ⟨(i 0).val / 8, by have : (i 0).val < 32 := (i 0).isLt; show _ < 4; omega⟩

/-- Where every device `s` has `X s`, device `c` collects: slab `s` of the result is slab `c` of `X s`. -/
def exchange {α : Type} (X : Dev nD → S32x2048x128.Idx → α) (c : Dev nD) : S32x2048x128.Idx → α :=
  fun i => X (slabOf i) (place c i)

theorem exchange_rows {α : Type} (X : Dev nD → S32x2048x128.Idx → α) (s c : Dev nD) (y : (rows s).shape.Idx) :
    exchange X c ((rows s).emb y) = X s ((rows c).emb y) := by
  have h0 : (y 0).val < 8 := (y 0).isLt
  have hv (p : Dev nD) (a : Fin 3) : ((rows p).emb y a).val = (![8 * p.val, 0, 0] : Fin 3 → Nat) a + (y a).val :=
    ValueKit.rect_emb_unit_val (s := S32x2048x128) ![8 * p.val, 0, 0] S8x2048x128.size (slab_inb p) y a
  have hs : slabOf ((rows s).emb y) = s := Fin.ext (by
    show ((rows s).emb y 0).val / 8 = s.val
    rw [hv]; show (8 * s.val + (y 0).val) / 8 = s.val; omega)
  have hp : place c ((rows s).emb y) = (rows c).emb y := by
    funext a
    apply Fin.ext
    fin_cases a
    · show 8 * c.val + ((rows s).emb y 0).val % 8 = ((rows c).emb y 0).val
      rw [hv, hv]; show 8 * c.val + (8 * s.val + (y 0).val) % 8 = 8 * c.val + (y 0).val; omega
    · show ((rows s).emb y 1).val = ((rows c).emb y 1).val
      rw [hv, hv]; rfl
    · show ((rows s).emb y 2).val = ((rows c).emb y 2).val
      rw [hv, hv]; rfl
  unfold exchange
  rw [hs, hp]

end Cert.A2a
-- ==== Proof.Protocol.lean ====
/-
  The protocol of the exchange. Device `c` copies its own slab of each array locally, and sends slab `c + d` of each
  of its arrays to device `c + d` for `d = 1, 2, 3`, where it lands as slab `c` of that device's result. Its eighteen
  DMA semaphores are one cell each, with at most one copy on each:

  * cells `d` and `8 + d` (keys, values): the copy to device `c + d` has left; the source slab comes back;
  * cells `4 + d` and `12 + d`: the copy from device `c - d` has landed; slab `c - d` of the result comes, containing
    that device's slab `c`;
  * cells `16` and `17`: the local copy is over; both its slabs come;
  * cells `0`, `4`, `8`, `12` are not used.
-/
module

public import proofs.«01_k».proof.Proof.Slabs
public import Idealize.ShloMosaic.Lib.Pipeline.Kit
public import Idealize.ShloMosaic.Lib.Tactic

@[expose] public section

noncomputable section

namespace Cert.A2a

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The exchange's copy of the rounds. -/
abbrev ER : Emb (UR sig nD τ) (MT nD τ sig Unit (Elt F) ℕ UU ℕ) := embR
/-- The pipeline's copy of the rounds. -/
abbrev EP : Emb (UR sig nD τ) (MT nD τ sig Unit (Elt F) ℕ UU ℕ) := embL

variable (m : (ℓ : Loc nD τ sig) → Buf (Elt F) ℓ)

/-! ## The devices -/

/-- The device `d` further on. -/
def far (d : ℕ) (c : Dev nD) : Dev nD := ⟨(c.val + d) % 4, Nat.mod_lt _ (by decide)⟩

/-- Going on by `d` as a permutation of the devices. -/
def ahead (d : Fin 4) : Dev nD ≃ Dev nD where
  toFun := far d.val
  invFun := far (4 - d.val)
  left_inv := by revert d; decide
  right_inv := by revert d; decide

theorem far_far (d : Fin 4) (c : Dev nD) : far (4 - d.val) (far d.val c) = c := (ahead d).left_inv c

/-! ## The arrays -/

abbrev kM : Memref sig .tc .hbm S32x2048x128 .fp8e4m3 := Memref.whole main_arg0
abbrev vM : Memref sig .tc .hbm S32x2048x128 .bf16 := Memref.whole main_arg1
abbrev kfM : Memref sig .tc .hbm S32x2048x128 .fp8e4m3 := Memref.whole main_v1_0
abbrev vfM : Memref sig .tc .hbm S32x2048x128 .bf16 := Memref.whole main_v1_1

/-- The keys and the values of device `s` at the start. -/
def kAt (s : Dev nD) : S32x2048x128.Idx → Elt F .fp8e4m3 := m ((s : Thread nD τ).loc main_arg0)
@[inherit_doc kAt] def vAt (s : Dev nD) : S32x2048x128.Idx → Elt F .bf16 := m ((s : Thread nD τ).loc main_arg1)

/-- The results on device `c` at the end. -/
def kOut (c : Dev nD) : S32x2048x128.Idx → Elt F .fp8e4m3 := exchange (kAt m) c
@[inherit_doc kOut] def vOut (c : Dev nD) : S32x2048x128.Idx → Elt F .bf16 := exchange (vAt m) c

/-- The slabs at these contents. -/
abbrev kPts (p c : Dev nD) : sProp 𝕄 := slabPts kM p c (kAt m c)
abbrev vPts (p c : Dev nD) : sProp 𝕄 := slabPts vM p c (vAt m c)
abbrev kfPts (p c : Dev nD) : sProp 𝕄 := slabPts kfM p c (kOut m c)
abbrev vfPts (p c : Dev nD) : sProp 𝕄 := slabPts vfM p c (vOut m c)

omit [FloatOps F] in
/-- Slab `c` of device `s`, copied over slab `s` of device `c`'s result. -/
theorem k_landed (s c : Dev nD) (fd : Buf (Elt F) ((kfM : Memref sig .tc .hbm S32x2048x128 .fp8e4m3).view.loc (c : Thread nD τ))) :
    ((slab kfM s).view.loc (c : Thread nD τ) ↦[(slab kfM s).view.set]{fullShare}
        ((slab kfM s).view.write (Elt F) fd ((slab kM c).view.read (Elt F) (kAt m s)) Finset.univ) : sProp 𝕄)
      = kfPts m s c :=
  slab_landed kM kfM c s s c (kAt m s) fd (kOut m c) fun y => exchange_rows (kAt m) s c y
omit [FloatOps F] in
@[inherit_doc k_landed]
theorem v_landed (s c : Dev nD) (fd : Buf (Elt F) ((vfM : Memref sig .tc .hbm S32x2048x128 .bf16).view.loc (c : Thread nD τ))) :
    ((slab vfM s).view.loc (c : Thread nD τ) ↦[(slab vfM s).view.set]{fullShare}
        ((slab vfM s).view.write (Elt F) fd ((slab vM c).view.read (Elt F) (vAt m s)) Finset.univ) : sProp 𝕄)
      = vfPts m s c :=
  slab_landed vM vfM c s s c (vAt m s) fd (vOut m c) fun y => exchange_rows (vAt m) s c y

/-! ## The cells -/

abbrev osem (k : Fin 18) : SemLoc sig := .dma k
abbrev cell (c : Dev nD) (k : Fin 18) : GSem nD τ sig := ((c : Thread nD τ), osem k)

/-- What a copy of a slab of keys credits, and of values. -/
abbrev NK : ℕ := (slab kfM 0).view.dmaCredit
abbrev NV : ℕ := (slab vfM 0).view.dmaCredit
theorem NK_pos : 0 < NK := View.dmaCredit_pos _ (by decide)
theorem NV_pos : 0 < NV := View.dmaCredit_pos _ (by decide)

/-- A semaphore's copy is of values: cells 8 to 15, and 17. -/
def isV (k : Fin 18) : Bool := decide (8 ≤ k.val) && decide (k.val ≠ 16)
/-- A semaphore is used. -/
def used (k : Fin 18) : Bool := decide (k.val % 4 ≠ 0) || decide (k.val = 16)

def amt (k : Fin 18) : ℕ := if isV k then NV else NK

/-- What device `c` gets at the wait on its semaphore `k`. -/
def pay (c : Dev nD) (k : Fin 18) : sProp 𝕄 :=
  match k with
  | 1 => kPts m (far 1 c) c | 2 => kPts m (far 2 c) c | 3 => kPts m (far 3 c) c
  | 5 => kfPts m (far 3 c) c | 6 => kfPts m (far 2 c) c | 7 => kfPts m (far 1 c) c
  | 9 => vPts m (far 1 c) c | 10 => vPts m (far 2 c) c | 11 => vPts m (far 3 c) c
  | 13 => vfPts m (far 3 c) c | 14 => vfPts m (far 2 c) c | 15 => vfPts m (far 1 c) c
  | 16 => iprop(kfPts m c c ∗ kPts m c c)
  | 17 => iprop(vfPts m c c ∗ vPts m c c)
  | _ => iprop(emp)

omit [FloatOps F] in
instance pay_storable (c : Dev nD) (k : Fin 18) : BI.Storable (upEmb : UEmb _ 𝕄) (pay m c k) := by
  unfold pay; split <;> infer_instance

/-! ## The schedule -/

/-- One round; the duties, amounts and payloads by semaphore. -/
def Rd : Rounds.Schedule (GSem nD τ sig) Unit 𝕄 where
  duties g r := match g.2 with
    | .dma k => if r = 0 ∧ g.1.2 = .tc ∧ used k = true then {()} else ∅
    | .reg _ => ∅
  unitless _ := False
  amount g _ _ := match g.2 with
    | .dma k => amt k
    | .reg _ => 1
  payload g _ _ := match g.2 with
    | .dma k => pay m g.1.1 k
    | .reg _ => iprop(emp)
  amount_pos g _ _ _ := by
    cases g.2 with
    | dma k => show 0 < amt k; unfold amt; split; exacts [NV_pos, NK_pos]
    | reg _ => exact Nat.one_pos

omit [FloatOps F] in
instance Rd_payload_storable (g : GSem nD τ sig) (r : ℕ) (d : Unit) : BI.Storable (upEmb : UEmb _ 𝕄) ((Rd (F := F) m).payload g r d) := by
  show BI.Storable upEmb (match g.2 with | .dma k => pay m g.1.1 k | .reg _ => iprop(emp))
  split <;> infer_instance

section Sched
variable (c : Dev nD) (k : Fin 18)

omit [FloatOps F] in
theorem duties_used (h : used k = true) : (Rd (F := F) m).duties (cell c k) 0 = {()} := if_pos ⟨rfl, rfl, h⟩
omit [FloatOps F] in
theorem mem_duties (h : used k = true) : () ∈ (Rd (F := F) m).duties (cell c k) 0 := by
  rw [duties_used m c k h]; exact Finset.mem_singleton_self _
omit [FloatOps F] in
theorem amount_cell (u : Unit) : (Rd (F := F) m).amount (cell c k) 0 u = amt k := rfl
omit [FloatOps F] in
theorem payload_cell (u : Unit) : (Rd (F := F) m).payload (cell c k) 0 u = pay m c k := rfl
omit [FloatOps F] in
theorem expect_cell (h : used k = true) : (Rd (F := F) m).expect (cell c k) 0 = amt k := by
  unfold Schedule.expect Schedule.amountOf; rw [duties_used m c k h, Finset.sum_singleton, amount_cell]
omit [FloatOps F] in
theorem rest_cell (h : used k = true) :
    bigSep ((Rd (F := F) m).duties (cell c k) 0 \ ∅) (fun u => (Rd (F := F) m).payload (cell c k) 0 u) = pay m c k := by
  rw [Finset.sdiff_empty, duties_used m c k h, bigSep_singleton, payload_cell]

/-- The round a cell is in when the kernel is over. -/
def endRound (k : Fin 18) : ℕ := if used k then 1 else 0

omit [FloatOps F] in
theorem duties_end : ∀ r, endRound k ≤ r → (Rd (F := F) m).duties (cell c k) r = ∅ := fun r hr =>
  if_neg fun ⟨h0, _, hu⟩ => by unfold endRound at hr; rw [if_pos hu, h0] at hr; exact absurd hr (by decide)

end Sched

/-! ## What each device owes at the start -/

/-- The six landings device `c` owes its peers, the last sent first in the sum. -/
def O₀ (c : Dev nD) : CellTallies nD τ sig Unit :=
  ((((((0 + tallyAt (cell (far 3 c) 15) () (amt 15)) + tallyAt (cell (far 3 c) 7) () (amt 7))
    + tallyAt (cell (far 2 c) 14) () (amt 14)) + tallyAt (cell (far 2 c) 6) () (amt 6))
    + tallyAt (cell (far 1 c) 13) () (amt 13)) + tallyAt (cell (far 1 c) 5) () (amt 5))

end Cert.A2a
-- ==== Proof.Steps.lean ====
/-
  The kernel's three kinds of step, each at a symbolic device: a local copy of a slab, a copy to another device, and
  a wait on a semaphore.
-/
module

public import proofs.«01_k».proof.Proof.Protocol

@[expose] public section

noncomputable section

namespace Cert.A2a

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 18 → ℕ)

/-! ## What every device knows of every cell -/

/-- Every cell's invariant, under the names `K`, and that every cell has reached its round. -/
def records : sProp 𝕄 :=
  iprop((bigSep Finset.univ fun ck : Dev nD × Fin 18 => cellInv ER (Rd m) (K ck) (cell ck.1 ck.2))
    ∗ bigSep Finset.univ fun ck : Dev nD × Fin 18 => reached ER (cell ck.1 ck.2) 0)

omit [FloatOps F] in
instance records_persistent : BI.Persistent (records m K) := by unfold records; infer_instance

omit [FloatOps F] in
theorem inv_at (c : Dev nD) (k : Fin 18) : records m K ⊢ cellInv ER (Rd m) (K (c, k)) (cell c k) := by
  unfold records
  exact (sep_mono_left (bigSep_elim (Finset.mem_univ (c, k)))).trans (by iintro ⟨H, -⟩; iexact H)
omit [FloatOps F] in
theorem reached_at (c : Dev nD) (k : Fin 18) : records m K ⊢ (reached ER (cell c k) 0 : sProp 𝕄) := by
  unfold records
  exact (sep_mono_right (bigSep_elim (Finset.mem_univ (c, k)))).trans (by iintro ⟨-, H⟩; iexact H)

/-! ## The steps -/

/-- A local copy of slab `c`, from `b` to `b'`, on the semaphore `k`. -/
theorem wp_local {e : EltTy} (b b' : Memref sig .tc .hbm S32x2048x128 e) (c : Dev nD) (k : Fin 18) (s : DmaSem sig) (hs : s = k)
    (hu : used k = true) (hN : (slab b' c).view.dmaCredit = amt k)
    (fs : Buf (Elt F) (b.view.loc (c : Thread nD τ))) (fd g : Buf (Elt F) (b'.view.loc (c : Thread nD τ)))
    (hland : ((slab b' c).view.loc (c : Thread nD τ) ↦[(slab b' c).view.set]{fullShare}
        ((slab b' c).view.write (Elt F) fd ((slab b c).view.read (Elt F) fs) Finset.univ) : sProp 𝕄) = slabPts b' c c g)
    (hpay : pay m c k = iprop(slabPts b' c c g ∗ slabPts b c c fs))
    {off : Fin 3 → ℕ} (ho : off = ![8 * c.val, 0, 0])
    {inb : ∀ a, off a + S8x2048x128.size a ≤ S32x2048x128.size a}
    {st : ∀ a, (Rect.unit (s := S32x2048x128) off S8x2048x128.size inb).stride a = 1}
    {hsrc : (b.slice (Rect.unit (s := S32x2048x128) off S8x2048x128.size inb) st).view.WordExact}
    {hdst : (b'.slice (Rect.unit (s := S32x2048x128) off S8x2048x128.size inb) st).view.WordExact}
    {hsem : DmaTarget.Typed (nD := nD) .hbm (.dma s) (.here (p := (Proc.tc : Proc τ)) (b'.slice (Rect.unit (s := S32x2048x128) off S8x2048x128.size inb) st))}
    {α : Type} {Q : α → sProp 𝕄} {kk : PUnit → Prog (TpuEff nD τ sig (Elt F) Λ₀ .tc) α} :
    iprop(records m K ∗ slabPts b c c fs ∗ slabPts b' c c fd ∗ dutyTok ER (cell c k) 0 ())
      ⊢ iprop((cred (tallyAt (cell c k) () (amt k)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (b.slice (Rect.unit (s := S32x2048x128) off S8x2048x128.size inb) st)
                (.here (b'.slice (Rect.unit (s := S32x2048x128) off S8x2048x128.size inb) st)) (.dma s) hsrc hdst hsem) kk) Q) := by
  subst ho hs
  refine BIBase.Entails.trans ?_ (Rounds.wp_copy_pointsTo (src := slab b c) (dst := slab b' c) 𝒱₀ ER (Rd m) (c : Thread nD τ) none (κ := K (c, s)) (r := 0) (d := ()) (fs := fs) (fd := fd) (q := fullShare)
    (mem_duties m c s hu) () (amt s) hN (amount_cell m c s ())
    (by rw [payload_cell, hpay, hland]; exact BI.Entails.refl _))
  iintro ⟨#HR, Hs, Hd, Ht⟩
  isplitr; · iapply (inv_at m K c s); iexact HR
  isplitl [Hs]; · unfold slabPts; iexact Hs
  isplitl [Hd]; · unfold slabPts; iexact Hd
  isplitl [Ht]; · iexact Ht
  iapply (reached_at m K c s); iexact HR

/-- Slab `n` of `b` on device `c`, sent to device `n` as slab `c` of `b'` there: it leaves on the semaphore `kS` here, and lands on `kR` there. -/
theorem wp_remote {e : EltTy} (b b' : Memref sig .tc .hbm S32x2048x128 e) (c n n' : Dev nD) (hn : n' = n) (kS kR : Fin 18)
    (sS sR : DmaSem sig) (hsS : sS = kS) (hsR : sR = kR) (huS : used kS = true) (huR : used kR = true)
    (hN : (slab b' c).view.dmaCredit = amt kR) (hamt : amt kS = amt kR)
    (fs : Buf (Elt F) (b.view.loc (c : Thread nD τ))) (fd g : Buf (Elt F) (b'.view.loc (n : Thread nD τ)))
    (hland : ((slab b' c).view.loc (n : Thread nD τ) ↦[(slab b' c).view.set]{fullShare}
        ((slab b' c).view.write (Elt F) fd ((slab b n).view.read (Elt F) fs) Finset.univ) : sProp 𝕄) = slabPts b' c n g)
    (hpayS : pay m c kS = slabPts b n c fs) (hpayR : pay m n kR = slabPts b' c n g)
    {off off' : Fin 3 → ℕ} (ho : off = ![8 * n.val, 0, 0]) (ho' : off' = ![8 * c.val, 0, 0])
    {inb : ∀ a, off a + S8x2048x128.size a ≤ S32x2048x128.size a} {inb' : ∀ a, off' a + S8x2048x128.size a ≤ S32x2048x128.size a}
    {st : ∀ a, (Rect.unit (s := S32x2048x128) off S8x2048x128.size inb).stride a = 1}
    {st' : ∀ a, (Rect.unit (s := S32x2048x128) off' S8x2048x128.size inb').stride a = 1}
    {hsc : (b'.slice (Rect.unit (s := S32x2048x128) off' S8x2048x128.size inb') st').view.ref.isScScratch = false}
    {hsrc : (b.slice (Rect.unit (s := S32x2048x128) off S8x2048x128.size inb) st).view.WordExact}
    {hdst : (b'.slice (Rect.unit (s := S32x2048x128) off' S8x2048x128.size inb') st').view.WordExact}
    {hsem : DmaTarget.Typed .hbm (.dma sR) (.remote (Dev.tc n' : Thread nD τ) (b'.slice (Rect.unit (s := S32x2048x128) off' S8x2048x128.size inb') st') (.dma sS) hsc)}
    {α : Type} {Q : α → sProp 𝕄} {kk : PUnit → Prog (TpuEff nD τ sig (Elt F) Λ₀ .tc) α} (O : CellTallies nD τ sig Unit) (W : Waits sig Unit) :
    iprop(records m K ∗ slabPts b n c fs ∗ slabPts b' c n fd ∗ owes (c : Thread nD τ) (O + tallyAt (cell n kR) () (amt kR)) W
        ∗ dutyTok ER (cell c kS) 0 () ∗ dutyTok ER (cell n kR) 0 ())
      ⊢ iprop(((cred (tallyAt (cell c kS) () (amt kS)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (b.slice (Rect.unit (s := S32x2048x128) off S8x2048x128.size inb) st)
                (.remote (Dev.tc n' : Thread nD τ) (b'.slice (Rect.unit (s := S32x2048x128) off' S8x2048x128.size inb') st') (.dma sS) hsc) (.dma sR) hsrc hdst hsem) kk) Q) := by
  subst ho ho' hsS hsR hn
  rw [hamt]
  refine BIBase.Entails.trans ?_ (Rounds.wp_send_pointsTo (src := slab b n') (dst := slab b' c) (c' := (n' : Thread nD τ)) 𝒱₀ ER (Rd m) (c : Thread nD τ) none (κ₁ := K (c, sS)) (κ₂ := K (n', sR))
    (r₁ := 0) (r₂ := 0) (d₁ := ()) (d₂ := ()) (fs := fs) (fd := fd) (q := fullShare)
    (mem_duties m c sS huS) (mem_duties m n' sR huR) () () (amt sR) hN ((amount_cell m c sS ()).trans hamt) (amount_cell m n' sR ()) O rfl (W := W)
    (by rw [payload_cell, hpayS]; exact BI.Entails.refl _)
    (by rw [payload_cell, hpayR, hland]))
  iintro ⟨#HR, Hs, Hd, HO, HtS, HtR⟩
  isplitr; · iapply (inv_at m K c sS); iexact HR
  isplitr; · iapply (inv_at m K n' sR); iexact HR
  isplitl [Hs]; · unfold slabPts; iexact Hs
  isplitl [Hd]; · unfold slabPts; iexact Hd
  isplitl [HO]; · iexact HO
  isplitl [HtS]; · iexact HtS
  isplitr; · iapply (reached_at m K c sS); iexact HR
  isplitl [HtR]; · iexact HtR
  iapply (reached_at m K n' sR); iexact HR

/-- Nothing owed, whatever has been waited on. -/
def idle (c : Dev nD) : sProp 𝕄 := iprop(∃ W, owes (c : Thread nD τ) (0 : CellTallies nD τ sig Unit) W)

/-- The wait on the semaphore `k`, when nothing is owed any more: what its copy hands over. -/
theorem wp_wait (c : Dev nD) (k : Fin 18) (s : DmaSem sig) (hs : s = k) (hu : used k = true) {e e' : EltTy}
    {src : Memref sig .tc .hbm S8x2048x128 e'} {dst : Memref sig .tc .hbm S8x2048x128 e} {hsrc : src.view.WordExact} {hdst : dst.view.WordExact}
    (hN : dst.view.dmaCredit = amt k)
    {α : Type} {Q : α → sProp 𝕄} {kk : PUnit → Prog (TpuEff nD τ sig (Elt F) Λ₀ .tc) α} :
    iprop(records m K ∗ cred (tallyAt (cell c k) () (amt k)) ∗ idle c ∗ atPos ER (cell c k) 0 ∅ 0)
      ⊢ iprop(((idle c ∗ atPos ER (cell c k) 1 ∅ 0 ∗ pay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  unfold idle
  iintro ⟨#HR, Hc, ⟨%W, HO⟩, Hat⟩ Hk
  iapply (Rounds.wp_wait_rest_token 𝒱₀ ER (Rd m) (c : Thread nD τ) none (κ := K (c, s))
      (wpE_waitDma2_eq 𝒱₀ (c : Thread nD τ) none Set.univ) (Set.mem_univ _) () (O := 0) (W := W) (R := 0) (m := 0) (T := ∅)
      (by rw [Nat.zero_add, expect_cell m c s hu, hN])) $$ [Hc HO Hat]
  · isplitr; · iapply (inv_at m K c s); iexact HR
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_cell m c s hu)); iexact Hpay

end Cert.A2a
-- ==== Proof.Body.lean ====
/-
  The kernel's body, run once at a symbolic device: the two local copies, the six copies to the other devices, the
  fourteen waits; then every cell is closed, and the arrays are whole again.
-/
module

public import proofs.«01_k».proof.Proof.Steps
public import proofs.«01_k».proof.Proof.Gen.KernelIdeal.Skeleton
public import Idealize.ShloMosaic.Lib.Rounds.Family

@[expose] public section

noncomputable section

namespace Cert.A2a

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The printed offsets, devices and semaphores -/

theorem off2_1 (c : Dev nD) : k0_off2 c 1#32 = ![8 * (far 1 c).val, 0, 0] := by revert c; decide +kernel
theorem off2_2 (c : Dev nD) : k0_off2 c 2#32 = ![8 * (far 2 c).val, 0, 0] := by revert c; decide +kernel
theorem off2_3 (c : Dev nD) : k0_off2 c 3#32 = ![8 * (far 3 c).val, 0, 0] := by revert c; decide +kernel
theorem dev_1 (c : Dev nD) : (⟨k0_dev1 c, k0_dev1_lt c⟩ : Dev nD) = far 1 c := by revert c; decide +kernel
theorem dev_2 (c : Dev nD) : (⟨k0_dev2 c, k0_dev2_lt c⟩ : Dev nD) = far 1 c := by revert c; decide +kernel
theorem dev_3 (c : Dev nD) : (⟨k0_dev3 c, k0_dev3_lt c⟩ : Dev nD) = far 2 c := by revert c; decide +kernel
theorem dev_4 (c : Dev nD) : (⟨k0_dev4 c, k0_dev4_lt c⟩ : Dev nD) = far 2 c := by revert c; decide +kernel
theorem dev_5 (c : Dev nD) : (⟨k0_dev5 c, k0_dev5_lt c⟩ : Dev nD) = far 3 c := by revert c; decide +kernel
theorem dev_6 (c : Dev nD) : (⟨k0_dev6 c, k0_dev6_lt c⟩ : Dev nD) = far 3 c := by revert c; decide +kernel

theorem sem_1 : ((cc0_scratch0.slice (Rect.unit (s := S4) ![1] S1.size inb_S4_S1_1)).squeeze S_ squeezes_S1_S_).sem = (1 : Fin 18) := by decide
theorem sem_2 : ((cc0_scratch0.slice (Rect.unit (s := S4) ![2] S1.size inb_S4_S1_2)).squeeze S_ squeezes_S1_S_).sem = (2 : Fin 18) := by decide
theorem sem_3 : ((cc0_scratch0.slice (Rect.unit (s := S4) ![3] S1.size inb_S4_S1_3)).squeeze S_ squeezes_S1_S_).sem = (3 : Fin 18) := by decide
theorem sem_5 : ((cc0_scratch1.slice (Rect.unit (s := S4) ![1] S1.size inb_S4_S1_1)).squeeze S_ squeezes_S1_S_).sem = (5 : Fin 18) := by decide
theorem sem_6 : ((cc0_scratch1.slice (Rect.unit (s := S4) ![2] S1.size inb_S4_S1_2)).squeeze S_ squeezes_S1_S_).sem = (6 : Fin 18) := by decide
theorem sem_7 : ((cc0_scratch1.slice (Rect.unit (s := S4) ![3] S1.size inb_S4_S1_3)).squeeze S_ squeezes_S1_S_).sem = (7 : Fin 18) := by decide
theorem sem_9 : ((cc0_scratch2.slice (Rect.unit (s := S4) ![1] S1.size inb_S4_S1_1)).squeeze S_ squeezes_S1_S_).sem = (9 : Fin 18) := by decide
theorem sem_10 : ((cc0_scratch2.slice (Rect.unit (s := S4) ![2] S1.size inb_S4_S1_2)).squeeze S_ squeezes_S1_S_).sem = (10 : Fin 18) := by decide
theorem sem_11 : ((cc0_scratch2.slice (Rect.unit (s := S4) ![3] S1.size inb_S4_S1_3)).squeeze S_ squeezes_S1_S_).sem = (11 : Fin 18) := by decide
theorem sem_13 : ((cc0_scratch3.slice (Rect.unit (s := S4) ![1] S1.size inb_S4_S1_1)).squeeze S_ squeezes_S1_S_).sem = (13 : Fin 18) := by decide
theorem sem_14 : ((cc0_scratch3.slice (Rect.unit (s := S4) ![2] S1.size inb_S4_S1_2)).squeeze S_ squeezes_S1_S_).sem = (14 : Fin 18) := by decide
theorem sem_15 : ((cc0_scratch3.slice (Rect.unit (s := S4) ![3] S1.size inb_S4_S1_3)).squeeze S_ squeezes_S1_S_).sem = (15 : Fin 18) := by decide
theorem sem_16 : ((cc0_scratch4.slice (Rect.unit (s := S2) ![0] S1.size inb_S2_S1_0)).squeeze S_ squeezes_S1_S_).sem = (16 : Fin 18) := by decide
theorem sem_17 : ((cc0_scratch4.slice (Rect.unit (s := S2) ![1] S1.size inb_S2_S1_1)).squeeze S_ squeezes_S1_S_).sem = (17 : Fin 18) := by decide

theorem back_1 (c : Dev nD) : far 3 (far 1 c) = c := by revert c; decide
theorem back_2 (c : Dev nD) : far 2 (far 2 c) = c := by revert c; decide
theorem back_3 (c : Dev nD) : far 1 (far 3 c) = c := by revert c; decide

theorem credit_k (b : Memref sig .tc .hbm S8x2048x128 .fp8e4m3) : b.view.dmaCredit = NK := rfl
theorem credit_v (b : Memref sig .tc .hbm S8x2048x128 .bf16) : b.view.dmaCredit = NV := rfl

/-! ## What a device starts with and ends with -/

/-- The results' arrays on device `s` at the start. -/
abbrev kf0 (s : Dev nD) : Buf (Elt F) ((kfM : Memref sig .tc .hbm S32x2048x128 .fp8e4m3).view.loc (s : Thread nD τ)) := m ((s : Thread nD τ).loc main_v1_0)
@[inherit_doc kf0] abbrev vf0 (s : Dev nD) : Buf (Elt F) ((vfM : Memref sig .tc .hbm S32x2048x128 .bf16).view.loc (s : Thread nD τ)) := m ((s : Thread nD τ).loc main_v1_1)

/-- Device `c`'s own slabs, and slab `c` of every result. -/
def slabs (c : Dev nD) : sProp 𝕄 :=
  iprop((kPts m c c ∗ kPts m (far 1 c) c ∗ kPts m (far 2 c) c ∗ kPts m (far 3 c) c)
    ∗ (vPts m c c ∗ vPts m (far 1 c) c ∗ vPts m (far 2 c) c ∗ vPts m (far 3 c) c)
    ∗ (slabPts kfM c c (kf0 m c) ∗ slabPts kfM c (far 1 c) (kf0 m (far 1 c)) ∗ slabPts kfM c (far 2 c) (kf0 m (far 2 c)) ∗ slabPts kfM c (far 3 c) (kf0 m (far 3 c)))
    ∗ (slabPts vfM c c (vf0 m c) ∗ slabPts vfM c (far 1 c) (vf0 m (far 1 c)) ∗ slabPts vfM c (far 2 c) (vf0 m (far 2 c)) ∗ slabPts vfM c (far 3 c) (vf0 m (far 3 c))))

/-- The duties device `c` pays: on its own cells, and on its peers' landing cells. -/
def payToks (c : Dev nD) : sProp 𝕄 :=
  iprop((dutyTok ER (cell c 1) 0 () ∗ dutyTok ER (cell c 2) 0 () ∗ dutyTok ER (cell c 3) 0 ())
    ∗ (dutyTok ER (cell c 9) 0 () ∗ dutyTok ER (cell c 10) 0 () ∗ dutyTok ER (cell c 11) 0 ())
    ∗ (dutyTok ER (cell c 16) 0 () ∗ dutyTok ER (cell c 17) 0 ())
    ∗ (dutyTok ER (cell (far 1 c) 5) 0 () ∗ dutyTok ER (cell (far 2 c) 6) 0 () ∗ dutyTok ER (cell (far 3 c) 7) 0 ())
    ∗ (dutyTok ER (cell (far 1 c) 13) 0 () ∗ dutyTok ER (cell (far 2 c) 14) 0 () ∗ dutyTok ER (cell (far 3 c) 15) 0 ()))

/-- The credit for the six landings on device `c`. -/
def landCreds (c : Dev nD) : sProp 𝕄 :=
  iprop(cred (tallyAt (cell c 5) () (amt 5)) ∗ cred (tallyAt (cell c 6) () (amt 6)) ∗ cred (tallyAt (cell c 7) () (amt 7))
    ∗ cred (tallyAt (cell c 13) () (amt 13)) ∗ cred (tallyAt (cell c 14) () (amt 14)) ∗ cred (tallyAt (cell c 15) () (amt 15)))

/-- The four arrays, whole, as the kernel leaves them. -/
def arrays (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1_0) ↦{fullShare} kOut m c) ∗ (((c : Thread nD τ).loc main_v1_1) ↦{fullShare} vOut m c))

/-- Every cell of device `c` at its first round. -/
def atStart (c : Dev nD) : sProp 𝕄 := bigSep Finset.univ fun k : Fin 18 => atPos ER (cell c k) 0 ∅ 0

def start (c : Dev nD) : sProp 𝕄 := iprop((∃ K, records m K) ∗ atStart c ∗ payToks c ∗ landCreds c ∗ slabs m c)
def finish (c : Dev nD) : sProp 𝕄 := iprop(arrays m c ∗ bigSep Finset.univ fun k : Fin 18 => semVal (cell c k) 0)

omit [FloatOps F] in
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

omit [FloatOps F] in
/-- The devices, counted from `c`. -/
theorem bigSep_from (c : Dev nD) (Φ : Dev nD → sProp 𝕄) : bigSep Finset.univ Φ = iprop(Φ c ∗ Φ (far 1 c) ∗ Φ (far 2 c) ∗ Φ (far 3 c)) :=
  bigSep_univ_eq_bigSepL [c, far 1 c, far 2 c, far 3 c] (by revert c; decide) (by revert c; decide) Φ

omit [FloatOps F] in
/-- The closed cells give back their counters at zero. -/
theorem close_cells (K : Dev nD × Fin 18 → ℕ) (c : Dev nD) :
    iprop(records m K ∗ bigSep Finset.univ fun k : Fin 18 => atPos ER (cell c k) (endRound k) ∅ 0)
      ⊢ (|={Set.univ}=> bigSep Finset.univ fun k : Fin 18 => semVal (cell c k) 0 : sProp 𝕄) := by
  refine BIBase.Entails.trans ?_ (Rounds.cells_close ER (Rd m) Finset.univ (fun k => cell c k) (fun k => K (c, k)) (fun _ _ => Set.mem_univ _)
    (fun _ _ h => h) endRound (fun k _ => duties_end m c k))
  rw [bigSep_sep']
  iintro ⟨#HR, Hat⟩
  isplitr
  · iapply (BI.bigSep_intro_persistent (S := Finset.univ) fun (k : Fin 18) _ => inv_at m K c k); iexact HR
  · iexact Hat

section Body
variable (K : Dev nD × Fin 18 → ℕ)

set_option maxHeartbeats 4000000 in
theorem sound_body (c : Dev nD) (Kt : PUnit → sProp 𝕄) :
    iprop((records m K ∗ atStart c ∗ payToks c ∗ landCreds c ∗ slabs m c ∗ ∃ W, owes (c : Thread nD τ) (O₀ c) W)
        ∗ ((finish m c ∗ idle c) -∗ Kt ⟨⟩))
      ⊢ wp frame (wpE (defs₀ (F := F)) 𝒱₀ c none) Set.univ
          (cc0__a2a_body (Memref.whole main_arg0) (Memref.isWhole_whole _) (Memref.whole main_arg1) (Memref.isWhole_whole _)
            (Memref.whole main_v1_0) (Memref.isWhole_whole _) (Memref.whole main_v1_1) (Memref.isWhole_whole _)
            cc0_scratch0 cc0_scratch1 cc0_scratch2 cc0_scratch3 cc0_scratch4) Kt := by
  simp only [cc0__a2a_body_eq_skeleton]; unfold cc0__a2a_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold atStart payToks landCreds slabs
  rw [bigSep_fin18]
  iintro ⟨⟨#HR, ⟨P0, P1, P2, P3, P4, P5, P6, P7, P8, P9, P10, P11, P12, P13, P14, P15, P16, P17⟩, ⟨⟨T1, T2, T3⟩, ⟨T9, T10, T11⟩, ⟨T16, T17⟩, ⟨T5, T6, T7⟩, ⟨T13, T14, T15⟩⟩, ⟨C5, C6, C7, C13, C14, C15⟩,
    ⟨⟨A0, A1, A2, A3⟩, ⟨B0, B1, B2, B3⟩, ⟨X0, X1, X2, X3⟩, ⟨Y0, Y1, Y2, Y3⟩⟩, ⟨%W, HO⟩⟩, Hk⟩
  unfold O₀
  iapply (wp_local m K kM kfM c 16 _ sem_16 rfl rfl (kAt m c) (kf0 m c) (kOut m c) (k_landed m c c _) rfl (k0_off1_eq c)) $$ [A0 X0 T16]
  · isplitr; · iexact HR
    isplitl [A0]; · iexact A0
    isplitl [X0]; · iexact X0
    iexact T16
  iintro C16
  iapply (wp_local m K vM vfM c 17 _ sem_17 rfl rfl (vAt m c) (vf0 m c) (vOut m c) (v_landed m c c _) rfl (k0_off1_eq c)) $$ [B0 Y0 T17]
  · isplitr; · iexact HR
    isplitl [B0]; · iexact B0
    isplitl [Y0]; · iexact Y0
    iexact T17
  iintro C17
  iapply (wp_remote m K kM kfM c (far 1 c) _ (dev_1 c) 1 5 _ _ sem_1 sem_5 rfl rfl rfl rfl (kAt m c) (kf0 m (far 1 c)) (kOut m (far 1 c)) (k_landed m c (far 1 c) _)
      rfl (show kfPts m (far 3 (far 1 c)) (far 1 c) = _ by rw [back_1]) (off2_1 c) (k0_off1_eq c) _ W) $$ [A1 X1 HO T1 T5]
  · isplitr; · iexact HR
    isplitl [A1]; · iexact A1
    isplitl [X1]; · iexact X1
    isplitl [HO]; · iexact HO
    isplitl [T1]; · iexact T1
    iexact T5
  iintro ⟨C1, HO⟩
  iapply (wp_remote m K vM vfM c (far 1 c) _ (dev_2 c) 9 13 _ _ sem_9 sem_13 rfl rfl rfl rfl (vAt m c) (vf0 m (far 1 c)) (vOut m (far 1 c)) (v_landed m c (far 1 c) _)
      rfl (show vfPts m (far 3 (far 1 c)) (far 1 c) = _ by rw [back_1]) (off2_1 c) (k0_off1_eq c) _ W) $$ [B1 Y1 HO T9 T13]
  · isplitr; · iexact HR
    isplitl [B1]; · iexact B1
    isplitl [Y1]; · iexact Y1
    isplitl [HO]; · iexact HO
    isplitl [T9]; · iexact T9
    iexact T13
  iintro ⟨C9, HO⟩
  iapply (wp_remote m K kM kfM c (far 2 c) _ (dev_3 c) 2 6 _ _ sem_2 sem_6 rfl rfl rfl rfl (kAt m c) (kf0 m (far 2 c)) (kOut m (far 2 c)) (k_landed m c (far 2 c) _)
      rfl (show kfPts m (far 2 (far 2 c)) (far 2 c) = _ by rw [back_2]) (off2_2 c) (k0_off1_eq c) _ W) $$ [A2 X2 HO T2 T6]
  · isplitr; · iexact HR
    isplitl [A2]; · iexact A2
    isplitl [X2]; · iexact X2
    isplitl [HO]; · iexact HO
    isplitl [T2]; · iexact T2
    iexact T6
  iintro ⟨C2, HO⟩
  iapply (wp_remote m K vM vfM c (far 2 c) _ (dev_4 c) 10 14 _ _ sem_10 sem_14 rfl rfl rfl rfl (vAt m c) (vf0 m (far 2 c)) (vOut m (far 2 c)) (v_landed m c (far 2 c) _)
      rfl (show vfPts m (far 2 (far 2 c)) (far 2 c) = _ by rw [back_2]) (off2_2 c) (k0_off1_eq c) _ W) $$ [B2 Y2 HO T10 T14]
  · isplitr; · iexact HR
    isplitl [B2]; · iexact B2
    isplitl [Y2]; · iexact Y2
    isplitl [HO]; · iexact HO
    isplitl [T10]; · iexact T10
    iexact T14
  iintro ⟨C10, HO⟩
  iapply (wp_remote m K kM kfM c (far 3 c) _ (dev_5 c) 3 7 _ _ sem_3 sem_7 rfl rfl rfl rfl (kAt m c) (kf0 m (far 3 c)) (kOut m (far 3 c)) (k_landed m c (far 3 c) _)
      rfl (show kfPts m (far 1 (far 3 c)) (far 3 c) = _ by rw [back_3]) (off2_3 c) (k0_off1_eq c) _ W) $$ [A3 X3 HO T3 T7]
  · isplitr; · iexact HR
    isplitl [A3]; · iexact A3
    isplitl [X3]; · iexact X3
    isplitl [HO]; · iexact HO
    isplitl [T3]; · iexact T3
    iexact T7
  iintro ⟨C3, HO⟩
  iapply (wp_remote m K vM vfM c (far 3 c) _ (dev_6 c) 11 15 _ _ sem_11 sem_15 rfl rfl rfl rfl (vAt m c) (vf0 m (far 3 c)) (vOut m (far 3 c)) (v_landed m c (far 3 c) _)
      rfl (show vfPts m (far 1 (far 3 c)) (far 3 c) = _ by rw [back_3]) (off2_3 c) (k0_off1_eq c) _ W) $$ [B3 Y3 HO T11 T15]
  · isplitr; · iexact HR
    isplitl [B3]; · iexact B3
    isplitl [Y3]; · iexact Y3
    isplitl [HO]; · iexact HO
    isplitl [T11]; · iexact T11
    iexact T15
  iintro ⟨C11, HO⟩
  ihave HI := (show (owes (c : Thread nD τ) (0 : CellTallies nD τ sig Unit) W : sProp 𝕄) ⊢ idle c from by unfold idle; iintro H; iexists W; iexact H) $$ HO
  iapply (wp_wait m K c 1 _ sem_1 rfl (credit_k _)) $$ [C1 HI P1]
  · isplitr; · iexact HR
    isplitl [C1]; · iexact C1
    isplitl [HI]; · iexact HI
    iexact P1
  iintro ⟨HI, P1, R1⟩
  iapply (wp_wait m K c 5 _ sem_5 rfl (credit_k _)) $$ [C5 HI P5]
  · isplitr; · iexact HR
    isplitl [C5]; · iexact C5
    isplitl [HI]; · iexact HI
    iexact P5
  iintro ⟨HI, P5, R5⟩
  iapply (wp_wait m K c 9 _ sem_9 rfl (credit_v _)) $$ [C9 HI P9]
  · isplitr; · iexact HR
    isplitl [C9]; · iexact C9
    isplitl [HI]; · iexact HI
    iexact P9
  iintro ⟨HI, P9, R9⟩
  iapply (wp_wait m K c 13 _ sem_13 rfl (credit_v _)) $$ [C13 HI P13]
  · isplitr; · iexact HR
    isplitl [C13]; · iexact C13
    isplitl [HI]; · iexact HI
    iexact P13
  iintro ⟨HI, P13, R13⟩
  iapply (wp_wait m K c 2 _ sem_2 rfl (credit_k _)) $$ [C2 HI P2]
  · isplitr; · iexact HR
    isplitl [C2]; · iexact C2
    isplitl [HI]; · iexact HI
    iexact P2
  iintro ⟨HI, P2, R2⟩
  iapply (wp_wait m K c 6 _ sem_6 rfl (credit_k _)) $$ [C6 HI P6]
  · isplitr; · iexact HR
    isplitl [C6]; · iexact C6
    isplitl [HI]; · iexact HI
    iexact P6
  iintro ⟨HI, P6, R6⟩
  iapply (wp_wait m K c 10 _ sem_10 rfl (credit_v _)) $$ [C10 HI P10]
  · isplitr; · iexact HR
    isplitl [C10]; · iexact C10
    isplitl [HI]; · iexact HI
    iexact P10
  iintro ⟨HI, P10, R10⟩
  iapply (wp_wait m K c 14 _ sem_14 rfl (credit_v _)) $$ [C14 HI P14]
  · isplitr; · iexact HR
    isplitl [C14]; · iexact C14
    isplitl [HI]; · iexact HI
    iexact P14
  iintro ⟨HI, P14, R14⟩
  iapply (wp_wait m K c 3 _ sem_3 rfl (credit_k _)) $$ [C3 HI P3]
  · isplitr; · iexact HR
    isplitl [C3]; · iexact C3
    isplitl [HI]; · iexact HI
    iexact P3
  iintro ⟨HI, P3, R3⟩
  iapply (wp_wait m K c 7 _ sem_7 rfl (credit_k _)) $$ [C7 HI P7]
  · isplitr; · iexact HR
    isplitl [C7]; · iexact C7
    isplitl [HI]; · iexact HI
    iexact P7
  iintro ⟨HI, P7, R7⟩
  iapply (wp_wait m K c 11 _ sem_11 rfl (credit_v _)) $$ [C11 HI P11]
  · isplitr; · iexact HR
    isplitl [C11]; · iexact C11
    isplitl [HI]; · iexact HI
    iexact P11
  iintro ⟨HI, P11, R11⟩
  iapply (wp_wait m K c 15 _ sem_15 rfl (credit_v _)) $$ [C15 HI P15]
  · isplitr; · iexact HR
    isplitl [C15]; · iexact C15
    isplitl [HI]; · iexact HI
    iexact P15
  iintro ⟨HI, P15, R15⟩
  iapply (wp_wait m K c 16 _ sem_16 rfl (credit_k _)) $$ [C16 HI P16]
  · isplitr; · iexact HR
    isplitl [C16]; · iexact C16
    isplitl [HI]; · iexact HI
    iexact P16
  iintro ⟨HI, P16, R16⟩
  iapply (wp_wait m K c 17 _ sem_17 rfl (credit_v _)) $$ [C17 HI P17]
  · isplitr; · iexact HR
    isplitl [C17]; · iexact C17
    isplitl [HI]; · iexact HI
    iexact P17
  iintro ⟨HI, P17, R17⟩
  imod (close_cells m K c) $$ [P0 P1 P2 P3 P4 P5 P6 P7 P8 P9 P10 P11 P12 P13 P14 P15 P16 P17] with HZ
  · isplitr; · iexact HR
    rw [bigSep_fin18]
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    iexact P17
  rw [wp_ret]; imodintro
  iapply Hk
  ihave H16 := (show pay m c 16 ⊢ iprop(kfPts m c c ∗ kPts m c c) from BI.Entails.refl _) $$ R16
  ihave H17 := (show pay m c 17 ⊢ iprop(vfPts m c c ∗ vPts m c c) from BI.Entails.refl _) $$ R17
  icases H16 with ⟨X0, A0⟩
  icases H17 with ⟨Y0, B0⟩
  isplitr [HI]
  · unfold finish arrays
    isplitr [HZ]
    · isplitl [A0 R1 R2 R3]
      · iapply (Entails.of_eq ((whole_slabs (F := F) kM (View.set_whole _) c (kAt m c)).trans (bigSep_from c _)).symm)
        isplitl [A0]; · iexact A0
        isplitl [R1]; · iapply (Entails.of_eq (show pay m c 1 = kPts m (far 1 c) c from rfl)); iexact R1
        isplitl [R2]; · iapply (Entails.of_eq (show pay m c 2 = kPts m (far 2 c) c from rfl)); iexact R2
        iapply (Entails.of_eq (show pay m c 3 = kPts m (far 3 c) c from rfl)); iexact R3
      isplitl [B0 R9 R10 R11]
      · iapply (Entails.of_eq ((whole_slabs (F := F) vM (View.set_whole _) c (vAt m c)).trans (bigSep_from c _)).symm)
        isplitl [B0]; · iexact B0
        isplitl [R9]; · iapply (Entails.of_eq (show pay m c 9 = vPts m (far 1 c) c from rfl)); iexact R9
        isplitl [R10]; · iapply (Entails.of_eq (show pay m c 10 = vPts m (far 2 c) c from rfl)); iexact R10
        iapply (Entails.of_eq (show pay m c 11 = vPts m (far 3 c) c from rfl)); iexact R11
      isplitl [X0 R5 R6 R7]
      · iapply (Entails.of_eq ((whole_slabs (F := F) kfM (View.set_whole _) c (kOut m c)).trans (bigSep_from c _)).symm)
        isplitl [X0]; · iexact X0
        isplitl [R7]; · iapply (Entails.of_eq (show pay m c 7 = kfPts m (far 1 c) c from rfl)); iexact R7
        isplitl [R6]; · iapply (Entails.of_eq (show pay m c 6 = kfPts m (far 2 c) c from rfl)); iexact R6
        iapply (Entails.of_eq (show pay m c 5 = kfPts m (far 3 c) c from rfl)); iexact R5
      · iapply (Entails.of_eq ((whole_slabs (F := F) vfM (View.set_whole _) c (vOut m c)).trans (bigSep_from c _)).symm)
        isplitl [Y0]; · iexact Y0
        isplitl [R15]; · iapply (Entails.of_eq (show pay m c 15 = vfPts m (far 1 c) c from rfl)); iexact R15
        isplitl [R14]; · iapply (Entails.of_eq (show pay m c 14 = vfPts m (far 2 c) c from rfl)); iexact R14
        iapply (Entails.of_eq (show pay m c 13 = vfPts m (far 3 c) c from rfl)); iexact R13
    · iexact HZ
  · iexact HI

end Body

end Cert.A2a
-- ==== Proof.Deal.lean ====
/-
  What the machine holds at the start, dealt to the devices: the four arrays of every device cut into slabs and each
  result's slab handed to the device that fills it; the token of every landing handed to the device that sends; the
  credit for its landings kept by each device; and every cell's invariant allocated.
-/
module

public import proofs.«01_k».proof.Proof.Body
public import Idealize.ShloMosaic.Lib.Pipeline.Launch

@[expose] public section

noncomputable section

namespace Cert.A2a

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The slabs -/

omit [FloatOps F] in
theorem sep_turn (A B C : sProp 𝕄) : (iprop(A ∗ B ∗ C) : sProp 𝕄) = iprop(C ∗ B ∗ A) := by
  have h (A B C : sProp 𝕄) : (iprop(A ∗ B ∗ C) : sProp 𝕄) ⊢ iprop(C ∗ B ∗ A) := by
    iintro ⟨HA, HB, HC⟩
    isplitl [HC]; · iexact HC
    isplitl [HB] <;> iassumption
  exact BI.Entails.antisymm (h A B C) (h C B A)

omit [FloatOps F] in
/-- Four families at once. -/
theorem bigSep_four (A B C D : Dev nD → sProp 𝕄) :
    (bigSep Finset.univ fun c => iprop(A c ∗ B c ∗ C c ∗ D c)) = iprop(bigSep Finset.univ A ∗ bigSep Finset.univ B ∗ bigSep Finset.univ C ∗ bigSep Finset.univ D) :=
  (bigSep_sep' _ _ _).trans (congrArg _ ((bigSep_sep' _ _ _).trans (congrArg _ (bigSep_sep' _ _ _))))

omit [FloatOps F] in
/-- Every device's slabs of one array, regrouped by slab. -/
theorem deal_slabs {e : EltTy} (b : Memref sig .tc .hbm S32x2048x128 e) (f : (c : Dev nD) → Buf (Elt F) (b.view.loc (c : Thread nD τ))) :
    (bigSep Finset.univ fun n : Dev nD => (iprop(slabPts b n n (f n) ∗ slabPts b (far 1 n) n (f n) ∗ slabPts b (far 2 n) n (f n) ∗ slabPts b (far 3 n) n (f n)) : sProp 𝕄))
      = bigSep Finset.univ fun c : Dev nD =>
          iprop(slabPts b c c (f c) ∗ slabPts b c (far 1 c) (f (far 1 c)) ∗ slabPts b c (far 2 c) (f (far 2 c)) ∗ slabPts b c (far 3 c) (f (far 3 c))) := by
  simp only [bigSep_sep']
  rw [bigSep_univ_equiv (ahead 3) (fun n : Dev nD => (slabPts b (far 1 n) n (f n) : sProp 𝕄)),
    bigSep_univ_equiv (ahead 2) (fun n : Dev nD => (slabPts b (far 2 n) n (f n) : sProp 𝕄)),
    bigSep_univ_equiv (ahead 1) (fun n : Dev nD => (slabPts b (far 3 n) n (f n) : sProp 𝕄))]
  have h3 : (fun c : Dev nD => (slabPts b (far 1 (ahead 3 c)) (ahead 3 c) (f (ahead 3 c)) : sProp 𝕄)) = fun c => slabPts b c (far 3 c) (f (far 3 c)) :=
    funext fun c => by rw [show ahead 3 c = far 3 c from rfl, back_3]
  have h2 : (fun c : Dev nD => (slabPts b (far 2 (ahead 2 c)) (ahead 2 c) (f (ahead 2 c)) : sProp 𝕄)) = fun c => slabPts b c (far 2 c) (f (far 2 c)) :=
    funext fun c => by rw [show ahead 2 c = far 2 c from rfl, back_2]
  have h1 : (fun c : Dev nD => (slabPts b (far 3 (ahead 1 c)) (ahead 1 c) (f (ahead 1 c)) : sProp 𝕄)) = fun c => slabPts b c (far 1 c) (f (far 1 c)) :=
    funext fun c => by rw [show ahead 1 c = far 1 c from rfl, back_1]
  rw [h1, h2, h3]
  exact congrArg _ (sep_turn _ _ _)

omit [FloatOps F] in
/-- One device's array, whole, as its four slabs counted from its own. -/
theorem whole_from {e : EltTy} (b : Memref sig .tc .hbm S32x2048x128 e) (hb : b.view.set = Finset.univ) (n : Dev nD)
    (f : Buf (Elt F) (b.view.loc (n : Thread nD τ))) :
    ((b.view.loc (n : Thread nD τ)) ↦{fullShare} f : sProp 𝕄)
      = iprop(slabPts b n n f ∗ slabPts b (far 1 n) n f ∗ slabPts b (far 2 n) n f ∗ slabPts b (far 3 n) n f) := by
  rw [whole_slabs b hb n f, bigSep_from n]

/-- One device's arrays at the start. -/
abbrev held (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1_0) ↦{fullShare} m ((c : Thread nD τ).loc main_v1_0)) ∗ (((c : Thread nD τ).loc main_v1_1) ↦{fullShare} m ((c : Thread nD τ).loc main_v1_1)))

omit [FloatOps F] in
theorem deal_arrays : (bigSep Finset.univ fun c : Dev nD => (held m c : sProp 𝕄)) ⊢ bigSep Finset.univ (slabs m) := by
  have e : ∀ n : Dev nD, (held m n : sProp 𝕄) = _ := fun n => by
    unfold held
    rw [show (((n : Thread nD τ).loc main_arg0) ↦{fullShare} m ((n : Thread nD τ).loc main_arg0) : sProp 𝕄) = _ from whole_from kM Finset.map_refl n (kAt m n),
      show (((n : Thread nD τ).loc main_arg1) ↦{fullShare} m ((n : Thread nD τ).loc main_arg1) : sProp 𝕄) = _ from whole_from vM Finset.map_refl n (vAt m n),
      show (((n : Thread nD τ).loc main_v1_0) ↦{fullShare} m ((n : Thread nD τ).loc main_v1_0) : sProp 𝕄) = _ from whole_from kfM Finset.map_refl n (kf0 m n),
      show (((n : Thread nD τ).loc main_v1_1) ↦{fullShare} m ((n : Thread nD τ).loc main_v1_1) : sProp 𝕄) = _ from whole_from vfM Finset.map_refl n (vf0 m n)]
  rw [bigSep_congr fun n _ => e n]
  unfold slabs
  rw [bigSep_four, deal_slabs kfM (kf0 m), deal_slabs vfM (vf0 m), ← bigSep_four]

/-! ## The cells and their tokens -/

theorem ownSemFacts : Pipeline.OwnSemFacts cfg0.spec osem := by decide

theorem cell_injective : Function.Injective (fun ck : Dev nD × Fin 18 => cell ck.1 ck.2) := by
  rintro ⟨c, k⟩ ⟨c', k'⟩ h
  have h1 : c = c' := congrArg (fun g : GSem nD τ sig => g.1.1) h
  have h2 : osem k = osem k' := congrArg Prod.snd h
  rw [h1, SemLoc.dma.inj h2]

def xCells : Finset (GSem nD τ sig) := Finset.univ.map ⟨fun ck : Dev nD × Fin 18 => cell ck.1 ck.2, cell_injective⟩
def xToks : Finset (GSem nD τ sig × ℕ × Unit) :=
  Finset.univ.map ⟨fun ck : Dev nD × Fin 18 => (cell ck.1 ck.2, 0, ()), fun _ _ h => cell_injective (congrArg Prod.fst h)⟩

def u₀ : UU := (initOf (Pipeline.cells cfgs cellOf_inj) (Pipeline.launchToks cfgs cellOf_inj), initOf xCells xToks)

/-- The tokens of every cell. -/
def allToks : sProp 𝕄 := bigSep Finset.univ fun c : Dev nD => bigSep Finset.univ fun k : Fin 18 => dutyTok ER (cell c k) 0 ()

omit [FloatOps F] in
/-- One kind of token, handed to the device `d` behind. -/
theorem toks_to (d : Fin 4) (k : Fin 18) :
    (bigSep Finset.univ fun c : Dev nD => (dutyTok ER (cell c k) 0 () : sProp 𝕄)) = bigSep Finset.univ fun c : Dev nD => dutyTok ER (cell (far d.val c) k) 0 () :=
  bigSep_univ_equiv (ahead d) (fun c : Dev nD => (dutyTok ER (cell c k) 0 () : sProp 𝕄))

omit [FloatOps F] in
theorem deal_toks : (allToks : sProp 𝕄) ⊢ bigSep Finset.univ fun c : Dev nD => payToks c := by
  unfold allToks payToks
  rw [bigSep_congr fun c _ => bigSep_fin18 (F := F) (fun k : Fin 18 => dutyTok ER (cell c k) 0 ())]
  simp only [bigSep_sep']
  rw [toks_to 1 5, toks_to 2 6, toks_to 3 7, toks_to 1 13, toks_to 2 14, toks_to 3 15]
  iintro ⟨-, T1, T2, T3, -, T5, T6, T7, -, T9, T10, T11, -, T13, T14, T15, T16, T17⟩
  isplitl [T1 T2 T3]
  · isplitl [T1]; · iexact T1
    isplitl [T2]; · iexact T2
    iexact T3
  isplitl [T9 T10 T11]
  · isplitl [T9]; · iexact T9
    isplitl [T10]; · iexact T10
    iexact T11
  isplitl [T16 T17]
  · isplitl [T16]; · iexact T16
    iexact T17
  isplitl [T5 T6 T7]
  · isplitl [T5]; · iexact T5
    isplitl [T6]; · iexact T6
    iexact T7
  isplitl [T13]; · iexact T13
  isplitl [T14]; · iexact T14
  iexact T15

omit [FloatOps F] in
/-- Every device's cells at their first round, and every cell's invariant, from the counters at zero. -/
theorem cells_alloc :
    iprop((bigSep Finset.univ fun c : Dev nD => bigSep Finset.univ fun k : Fin 18 => semVal (cell c k) 0) ∗ BI.own (ER (initOf xCells xToks)))
      ⊢ (|={Set.univ}=> iprop((∃ K, records m K) ∗ (bigSep Finset.univ fun c : Dev nD => atStart c) ∗ allToks) : sProp 𝕄) := by
  have hX (Φ : GSem nD τ sig → sProp 𝕄) : bigSep xCells Φ = bigSep Finset.univ fun ck : Dev nD × Fin 18 => Φ (cell ck.1 ck.2) := by
    unfold xCells; rw [bigSep_map]; rfl
  have hT : bigSep xToks (fun x => (dutyTok ER x.1 x.2.1 x.2.2 : sProp 𝕄)) = allToks := by
    unfold xToks allToks; rw [bigSep_map, bigSep_univ_prod]; rfl
  iintro ⟨Hv, HX⟩
  imod (Rounds.fund ER (Rd m) xCells xToks) $$ HX with ⟨Hst, Hr, Hat, Htok⟩
  ihave Hst' := (Entails.of_eq (hX fun g => roundState ER (Rd m) g 0)) $$ Hst
  ihave Hat' := (Entails.of_eq ((hX fun g => atPos ER g 0 ∅ 0).trans (bigSep_univ_prod _))) $$ Hat
  ihave Hr' := (Entails.of_eq (hX fun g => reached ER g 0)) $$ Hr
  ihave Htok' := (Entails.of_eq hT) $$ Htok
  imod (show iprop((bigSep Finset.univ fun c : Dev nD => bigSep Finset.univ fun k : Fin 18 => semVal (cell c k) 0)
        ∗ bigSep Finset.univ fun ck : Dev nD × Fin 18 => roundState ER (Rd m) (cell ck.1 ck.2) 0)
      ⊢ (|={Set.univ}=> bigSep Finset.univ fun ck : Dev nD × Fin 18 => iprop(∃ κ : ℕ, cellInv ER (Rd m) κ (cell ck.1 ck.2)) : sProp 𝕄) from by
        rw [← bigSep_univ_prod (fun ck : Dev nD × Fin 18 => (semVal (cell ck.1 ck.2) 0 : sProp 𝕄)), ← bigSep_sep']
        exact (bigSep_mono fun ck _ => (Rounds.body_intro ER (Rd m) (cell ck.1 ck.2)).trans inv_alloc).trans (bigSep_fupd _ _)) $$ [Hv Hst'] with Hinv
  · isplitl [Hv] <;> iassumption
  imodintro
  ihave HK := (BI.bigSep_exists_pi Finset.univ (fun (ck : Dev nD × Fin 18) (κ : ℕ) => (cellInv ER (Rd m) κ (cell ck.1 ck.2) : sProp 𝕄))) $$ Hinv
  icases HK with ⟨%K, HI⟩
  isplitl [HI Hr']
  · iexists K; unfold records; isplitl [HI] <;> iassumption
  isplitl [Hat']; · unfold atStart; iexact Hat'
  iexact Htok'

/-! ## The credit for the landings -/

omit [FloatOps F] in
theorem creds (c : Dev nD) : (Pipeline.launchCred O₀ c : sProp 𝕄) ⊢ landCreds c := by
  have step (d : Fin 4) (k : Fin 18) :
      (Pipeline.launchCred (fun c : Dev nD => (tallyAt (cell (far d.val c) k) () (amt k) : CellTallies nD τ sig Unit)) c : sProp 𝕄)
        ⊢ cred (tallyAt (cell c k) () (amt k)) :=
    Pipeline.launchCred_tallyAt (osem k) (far d.val) (far (4 - d.val)) (ahead d).right_inv (ahead d).left_inv () (amt k) c
  show (Pipeline.launchCred (fun c => O₀ c) c : sProp 𝕄) ⊢ landCreds c
  unfold O₀ landCreds
  rw [Pipeline.launchCred_add, Pipeline.launchCred_add, Pipeline.launchCred_add, Pipeline.launchCred_add, Pipeline.launchCred_add, Pipeline.launchCred_add]
  iintro ⟨⟨⟨⟨⟨⟨-, H15⟩, H7⟩, H14⟩, H6⟩, H13⟩, H5⟩
  isplitl [H5]; · iapply (step 1 5); iexact H5
  isplitl [H6]; · iapply (step 2 6); iexact H6
  isplitl [H7]; · iapply (step 3 7); iexact H7
  isplitl [H13]; · iapply (step 1 13); iexact H13
  isplitl [H14]; · iapply (step 2 14); iexact H14
  iapply (step 3 15); iexact H15

/-! ## Everything a device starts with -/

omit [FloatOps F] in
theorem deal :
    iprop((bigSep Finset.univ fun c : Dev nD => bigSep Finset.univ fun k : Fin 18 => semVal (cell c k) 0) ∗ BI.own (ER (initOf xCells xToks))
        ∗ (bigSep Finset.univ fun c : Dev nD => held m c) ∗ bigSep Finset.univ fun c : Dev nD => Pipeline.launchCred O₀ c)
      ⊢ (|={Set.univ}=> bigSep Finset.univ (start m) : sProp 𝕄) := by
  iintro ⟨Hv, HX, Hh, Hcr⟩
  imod (cells_alloc m) $$ [Hv HX] with ⟨⟨%K, HR⟩, Hat, Ht⟩
  · isplitl [Hv] <;> iassumption
  imodintro
  ihave Hs := (deal_arrays m) $$ Hh
  ihave Ht' := (deal_toks (F := F)) $$ Ht
  ihave Hc := (show (bigSep Finset.univ fun c : Dev nD => (Pipeline.launchCred O₀ c : sProp 𝕄)) ⊢ (bigSep Finset.univ fun c : Dev nD => landCreds c) from
    bigSep_mono fun c _ => creds c) $$ Hcr
  iapply (show iprop(records m K ∗ bigSep Finset.univ fun c : Dev nD => iprop(atStart c ∗ payToks c ∗ landCreds c ∗ slabs m c)) ⊢ (bigSep Finset.univ (start m) : sProp 𝕄) from
    (sep_mono_left (BI.bigSep_of_persistent Finset.univ (records m K))).trans (by
      rw [← bigSep_sep']
      refine bigSep_mono fun c _ => show (iprop(records m K ∗ atStart c ∗ payToks c ∗ landCreds c ∗ slabs m c) : sProp 𝕄) ⊢ start m c from ?_
      unfold start
      iintro ⟨HR, Hrest⟩
      isplitl [HR]; · iexists K; iexact HR
      iexact Hrest))
  isplitl [HR]; · iexact HR
  simp only [bigSep_sep']
  isplitl [Hat]; · iexact Hat
  isplitl [Ht']; · iexact Ht'
  isplitl [Hc]; · iexact Hc
  iexact Hs

end Cert.A2a
-- ==== Proof.Region.lean ====
/-
  The kernel as a region without windows, and the launch: what each device holds when its kernel starts. The arrays of
  all devices are dealt in one step before the kernel starts, since a device begins with slabs of its peers' results.
-/
module

public import proofs.«01_k».proof.Proof.Deal
public import Idealize.ShloMosaic.Lib.Quiescent

@[expose] public section

noncomputable section

namespace Cert.A2a

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel as a region without windows -/

def dats (_ : Fin 1) (c : Dev nD) : Dat τ (Elt F) Unit ℕ UU ℕ cfg0 c where
  A w := w.elim0
  after w _ := w.elim0
  Φ t := match t with
    | ⟨0, _⟩ => start m c
    | ⟨_ + 1, _⟩ => finish m c
  q _ := fullShare
  owed t := match t with
    | ⟨0, _⟩ => O₀ c
    | ⟨_ + 1, _⟩ => 0

omit [FloatOps F] in
theorem no_windows (Φ : Fin cfg0.W → sProp 𝕄) : bigSep Finset.univ Φ = iprop(emp) := by
  rw [show (Finset.univ : Finset (Fin cfg0.W)) = ∅ from rfl, BI.bigSep_empty]
  rfl

def bodyPre (c : Dev nD) : sProp 𝕄 := iprop(start m c ∗ (dats m 0 c).owesAt () t0_0.castSucc ∗ emp)
def bodyPost (c : Dev nD) : sProp 𝕄 := iprop(finish m c ∗ (dats m 0 c).owesAt () t0_0.succ ∗ emp)

theorem body_obligation (c : Dev nD) : BodyObligation (dats (F := F) m 0 c) (defs₀ (F := F)) 𝒱₀ () Set.univ := fun t => by
  rw [show t = t0_0 from fin_N0 t, no_windows, no_windows]
  show bodyPre m c ⊢ wp frame (wpE (defs₀ (F := F)) 𝒱₀ c none) Set.univ
    (cc0__a2a_body (Memref.whole main_arg0) (Memref.isWhole_whole _) (Memref.whole main_arg1) (Memref.isWhole_whole _)
            (Memref.whole main_v1_0) (Memref.isWhole_whole _) (Memref.whole main_v1_1) (Memref.isWhole_whole _)
            cc0_scratch0 cc0_scratch1 cc0_scratch2 cc0_scratch3 cc0_scratch4) (fun _ => bodyPost m c)
  unfold bodyPre start Dat.owesAt Pipeline.owesWithin
  iintro ⟨⟨⟨%K, HR⟩, Hat, Ht, Hc, Hs⟩, ⟨%W, -, HO⟩, -⟩
  iapply (sound_body m K c fun _ => bodyPost m c)
  isplitr []
  · isplitl [HR]; · iexact HR
    isplitl [Hat]; · iexact Hat
    isplitl [Ht]; · iexact Ht
    isplitl [Hc]; · iexact Hc
    isplitl [Hs]; · iexact Hs
    iexists W; iexact HO
  · unfold bodyPost idle Dat.owesAt Pipeline.owesWithin
    rw [show (dats m 0 c).owed t0_0.succ = 0 from rfl]
    iintro ⟨Hf, ⟨%W', HO⟩⟩
    isplitl [Hf]; · iexact Hf
    isplitl [HO]
    · iexists W'
      isplitr; · ipureintro; exact fun _ _ => Or.inl trivial
      iexact HO
    · iempintro

/-! ## The launch -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 18 => semVal (cell c k) 0 := rfl

omit [FloatOps F] in
theorem unscoped_eq (c : Dev nD) : (unscopedBufs c (fun b => m ((c : Thread nD τ).loc b)) : sProp 𝕄) ⊢ held m c := by
  rw [Pipeline.unscopedBufs_split₀ cfgs (0 : Fin 1) (fun w => w.elim0) c,
    show (Pipeline.unscopedRest (Ix := Unit) (Name := ℕ) (U := UU) (Lvl := ℕ) (cfgs 0).spec c (fun b => m ((c : Thread nD τ).loc b)) : sProp 𝕄) = _ from unscopedRest0_eq c _]
  iintro ⟨-, H⟩
  iexact H

/-- What a device holds when its kernel starts, but for what it owes. -/
def pre (c : Dev nD) : sProp 𝕄 :=
  iprop(scopedBufs (c : Thread nD τ) ∗ Pipeline.cellsSems0 cfgs 0 c ∗ Pipeline.idleSems0 cfgs cellOf_inj 0 ownSemFacts c
    ∗ owes (c : Thread nD τ) (O₀ c) ∅ ∗ Pipeline.cellsGhost cfgs EP 0 c ∗ Pipeline.toksInit cfgs EP 0 c ∗ start m c)

/-- What it holds when its kernel is over. -/
def fin (c : Dev nD) : sProp 𝕄 := iprop(arrays m c ∗ scopedSems0 (c : Thread nD τ))

omit [FloatOps F] in
theorem semsSplit (c : Dev nD) : (scopedSems0 (c : Thread nD τ) : sProp 𝕄)
    = iprop((Pipeline.cellsSems0 cfgs 0 c ∗ Pipeline.ownSems0 osem c) ∗ Pipeline.idleSems0 cfgs cellOf_inj 0 ownSemFacts c) :=
  Pipeline.scopedSems0_split cfgs cellOf_inj 0 winFacts0.to₀ ownSemFacts c
omit [FloatOps F] in
theorem bufsSplit (c : Dev nD) : (scopedBufs (c : Thread nD τ) : sProp 𝕄) = iprop(Dat.staging cfg0 c ∗ Pipeline.scopedRest cfg0.spec c) :=
  Pipeline.scopedBufs_split cfgs 0 winFacts0.stage_scoped winFacts0.stage_inj stage_whole0 c

omit [FloatOps F] in
/-- One device's holdings at the launch. -/
theorem core_start (c : Dev nD) :
    (coreInit (Ix := Unit) (Name := ℕ) (U := UU) (Lvl := ℕ) (Pipeline.owing O₀) 0 (⟨m, fun _ => 0, ρ⟩ : MemSt nD τ sig (Elt F)) (c : Thread nD τ) : sProp 𝕄)
      ⊢ iprop((scopedBufs (c : Thread nD τ) ∗ Pipeline.cellsSems0 cfgs 0 c ∗ Pipeline.idleSems0 cfgs cellOf_inj 0 ownSemFacts c ∗ owes (c : Thread nD τ) (O₀ c) ∅)
          ∗ (bigSep Finset.univ fun k : Fin 18 => semVal (cell c k) 0) ∗ held m c ∗ Pipeline.launchCred O₀ c) := by
  refine BIBase.Entails.trans (Pipeline.coreInit_boundary_owing O₀ m ρ c) ?_
  unfold boundary
  rw [semsSplit, ownSems0_eq]
  iintro ⟨⟨Hsc, ⟨⟨Hcells, Hos⟩, Hidle⟩, -⟩, Hub, -, HL, -, -, Hcr⟩
  isplitl [Hsc Hcells Hidle HL]
  · isplitl [Hsc]; · iexact Hsc
    isplitl [Hcells]; · iexact Hcells
    isplitl [Hidle]; · iexact Hidle
    iexact HL
  isplitl [Hos]; · iexact Hos
  isplitl [Hub]; · iapply (unscoped_eq m c); iexact Hub
  iexact Hcr

omit [FloatOps F] in
/-- The whole machine's. -/
theorem launch :
    iprop((bigSep Finset.univ fun c : Dev nD => coreInit (Ix := Unit) (Name := ℕ) (U := UU) (Lvl := ℕ) (Pipeline.owing O₀) 0 (⟨m, fun _ => 0, ρ⟩ : MemSt nD τ sig (Elt F)) (c : Thread nD τ))
        ∗ ownU u₀)
      ⊢ (|={Set.univ}=> ∃ _ : Unit, (bigSep Finset.univ (pre m)) ∗ emp : sProp 𝕄) := by
  have hpick (Φ : Fin 1 → Dev nD → sProp 𝕄) :
      (bigSep Finset.univ fun c : Dev nD => bigSep Finset.univ fun p' => Φ p' c) ⊢ bigSep Finset.univ fun c : Dev nD => Φ 0 c :=
    bigSep_mono fun c _ => BI.bigSep_elim (Finset.mem_univ 0)
  have hcores : (bigSep Finset.univ fun c : Dev nD => coreInit (Ix := Unit) (Name := ℕ) (U := UU) (Lvl := ℕ) (Pipeline.owing O₀) 0 (⟨m, fun _ => 0, ρ⟩ : MemSt nD τ sig (Elt F)) (c : Thread nD τ))
      ⊢ (_ : sProp 𝕄) := bigSep_mono (s := Finset.univ) fun (c : Dev nD) _ => core_start m ρ c
  rw [bigSep_four, bigSep_four] at hcores
  iintro ⟨Hcores, Hu⟩
  ihave Hc := hcores $$ Hcores
  icases Hc with ⟨⟨Hsc, Hcells, Hidle, HL⟩, Hos, Hh, Hcr⟩
  unfold u₀
  ihave H := (ownU_pair _ _) $$ Hu
  icases H with ⟨HP, HX⟩
  imod (Pipeline.PerCore.fund_ghost (fun _ : Dev nD => cfgs) EP cellOf_inj) $$ HP with ⟨Hg, Ht⟩
  imod (deal m) $$ [Hos HX Hh Hcr] with Hs
  · isplitl [Hos]; · iexact Hos
    isplitl [HX]; · iexact HX
    isplitl [Hh] <;> iassumption
  imodintro
  iexists ()
  isplitl
  · unfold pre
    simp only [bigSep_sep']
    isplitl [Hsc]; · iexact Hsc
    isplitl [Hcells]; · iexact Hcells
    isplitl [Hidle]; · iexact Hidle
    isplitl [HL]; · iexact HL
    isplitl [Hg]; · iapply (hpick fun p' c => Pipeline.cellsGhost cfgs EP p' c); iexact Hg
    isplitl [Ht]; · iapply (hpick fun p' c => Pipeline.toksInit cfgs EP p' c); iexact Ht
    iexact Hs
  · iempintro

end Cert.A2a
-- ==== Proof.Run.lean ====
/-
  The run of the whole machine, for any float values: from any memory with zero counters every execution ends, with
  the arguments unchanged, the results exchanged and every counter at zero.
-/
module

public import proofs.«01_k».proof.Proof.Region
public import Idealize.ShloMosaic.Lib.Quiescent

@[expose] public section

noncomputable section

namespace Cert.A2a

open Cert.KernelIdeal Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- One device's run of the program. -/
theorem core_run (c : Dev nD) :
    pre m c ⊢ wp frame (wpE (Pipeline.defs (pcfgs (F := F)) defs₀) (Variants.lift 𝒱₀) (c : Thread nD τ) none) Set.univ (main (F := F) c)
      (fun _ => post (liftTc (fin m) BI.emp) (c : Thread nD τ)) := by
  have hout : iprop((dats m 0 c).Φ (Fin.last cfg0.N) ∗ Pipeline.cellsSems0 cfgs 0 c ∗ Dat.staging cfg0 c ∗ Pipeline.idleSems0 cfgs cellOf_inj 0 ownSemFacts c)
      ⊢ (iprop(arrays m c ∗ scopedSems0 (c : Thread nD τ) ∗ scopedBufs (c : Thread nD τ)) : sProp 𝕄) := by
    rw [semsSplit, bufsSplit, scopedRest0_eq, ownSems0_eq, show (dats m 0 c).Φ (Fin.last cfg0.N) = finish m c from rfl]
    unfold finish
    iintro ⟨⟨HA, Hz⟩, Hcells, Hst, Hidle⟩
    isplitl [HA]; · iexact HA
    isplitl [Hz Hcells Hidle]
    · isplitl [Hz Hcells]
      · isplitl [Hcells] <;> iassumption
      · iexact Hidle
    isplitl [Hst]; · iexact Hst
    iempintro
  have hin : iprop(start m c ∗ Pipeline.prefHeld Pipeline.Prefetch.none c (fun _ => fullShare.right) (fun k => k.elim0) ∗ Pipeline.scopedRest cfg0.spec c)
      ⊢ ((dats m 0 c).Φ 0 : sProp 𝕄) := by
    rw [show (dats m 0 c).Φ 0 = start m c from rfl]
    iintro ⟨Hs, -⟩
    iexact Hs
  have hc := fun κ : GSem nD τ sig → ℕ => Pipeline.wp_customCall_entry_frame (pcfgs (F := F)) (fun p => (cfgs p).toPCfg_adm) (dats m) () EP κ cellOf_inj (0 : Fin 1) (defs₀ (F := F)) 𝒱₀ (fun _ => fullShare.right) c Set.univ
      (fun _ _ => Set.mem_univ _) (body_obligation m c).loose (fun w => w.elim0) none (fun u h => nomatch h)
      (X := start m c) (Y := arrays m c) (R := Pipeline.scopedRest cfg0.spec c) (I := Pipeline.idleSems0 cfgs cellOf_inj 0 ownSemFacts c)
      (Entails.of_eq (bufsSplit c)) hin hout
      (α := PUnit) (k := fun _ => .ret ⟨⟩) (Q := fun _ => post (liftTc (fin m) BI.emp) (c : Thread nD τ))
  have hmain : main (F := F) c = .op (.customCall (Pipeline.entry 0) ()) fun _ => .ret ⟨⟩ := rfl
  rw [hmain]
  unfold pre
  iintro ⟨Hsc, Hcells, Hidle, HL, Hg, Ht, Hs⟩
  iapply (fupd_wp frame (wpE (Pipeline.defs (pcfgs (F := F)) defs₀) (Variants.lift 𝒱₀) (c : Thread nD τ) none) Set.univ _ _)
  imod (Pipeline.cellsInit_alloc cfgs (dats m) EP cellOf_inj 0 c) $$ [Hcells Hg] with ⟨%κ, -, Hinit⟩
  · isplitl [Hcells] <;> iassumption
  imodintro
  iapply (hc κ) $$ [HL Hinit Ht Hs Hidle Hsc]
  · isplitl [HL Hinit Ht]
    · unfold Pipeline.EntryPre Pipeline.PerCore.EntryPre Dat.owesAt Pipeline.owesWithin Dat.arrays
      isplitr
      · iapply (Entails.of_eq (no_windows (F := F) _).symm); iempintro
      isplitl [HL]
      · iexists ∅; isplitr; · ipureintro; rw [Finset.coe_empty]; exact Set.empty_subset _
        iexact HL
      isplitr
      · iapply (Pipeline.cellsWaits_intro cfgs (dats m) () 0 c (R := iprop(emp)) fun w => w.elim0); iempintro
      isplitl [Hinit] <;> iassumption
    isplitr
    · unfold Pipeline.prefHeld
      rw [show (Finset.univ : Finset (Fin ((pcfgs (F := F) 0).pre.K))) = ∅ from rfl, BI.bigSep_empty]; iempintro
    isplitl [Hs]; · iexact Hs
    isplitl [Hidle] <;> iassumption
  iintro ⟨Hpost, HY, Hss, -⟩
  rw [wp_ret]; imodintro
  unfold post; simp only [liftTc_tc, fin]
  unfold Pipeline.EntryPost Pipeline.PerCore.EntryPost Dat.owesAt Pipeline.owesWithin
  icases Hpost with ⟨-, ⟨%W, -, HW⟩⟩
  isplitr [HW]
  · isplitl [HY] <;> iassumption
  · iexists W; iexact HW

/-- What one device's memory holds at the end. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1_0) = kOut m c ∧ s.mem ((c : Thread nD τ).loc main_v1_1) = vOut m c

omit [FloatOps F] in
theorem core_end (c : Dev nD) (s' : Phys nD τ sig (Elt F)) :
    iprop(fin m c ∗ SI s') ⊢ (|={Set.univ}=> iprop(⌜Ends m c s'.mem ∧ ∀ sm : SemLoc sig, sm.isScoped .tc = true → s'.mem.sem ((c : Thread nD τ), sm) = 0⌝ ∗ SI s') : sProp 𝕄) := by
  have rd (b : Ref sig .tc) (f : Buf (Elt F) ((c : Thread nD τ).loc b)) :
      (iprop((((c : Thread nD τ).loc b) ↦{fullShare} f) ∗ SI s') : sProp 𝕄) ⊢ iprop(⌜s'.mem.mem ((c : Thread nD τ).loc b) = f⌝ ∗ SI s') := by
    have h := pointsTo_read_all (Ix := Unit) (Name := ℕ) (U := UU) (Lvl := ℕ) ({()} : Finset Unit) (fun _ => (c : Thread nD τ).loc b) (fun _ => f) s'
    rw [bigSep_singleton] at h
    iintro H
    ihave H' := h $$ H
    icases H' with ⟨%h', HSI⟩
    isplitr; · ipureintro; exact h' () (Finset.mem_singleton_self _)
    iexact HSI
  unfold fin arrays
  iintro ⟨⟨⟨H0, H1, H2, H3⟩, Hss⟩, HSI⟩
  ihave %hz := (tcScoped_read_pers c s') $$ [Hss HSI]
  · isplitl [Hss] <;> iassumption
  ihave Hr := (rd main_arg0 _) $$ [H0 HSI]
  · isplitl [H0] <;> iassumption
  icases Hr with ⟨%h0, HSI⟩
  ihave Hr := (rd main_arg1 _) $$ [H1 HSI]
  · isplitl [H1] <;> iassumption
  icases Hr with ⟨%h1, HSI⟩
  ihave Hr := (rd main_v1_0 _) $$ [H2 HSI]
  · isplitl [H2] <;> iassumption
  icases Hr with ⟨%h2, HSI⟩
  ihave Hr := (rd main_v1_1 _) $$ [H3 HSI]
  · isplitl [H3] <;> iassumption
  icases Hr with ⟨%h3, HSI⟩
  imodintro
  isplitr
  · ipureintro; exact ⟨⟨h0, h1, h2, h3⟩, hz⟩
  · iexact HSI

/-- From any memory with zero counters every execution of the program on the four devices ends, each device with its
    arguments unchanged and its results exchanged, and every counter at zero. -/
theorem run_main : θ_run defs (onTc (τ := τ) (main (F := F))) ⟨m, fun _ => 0, ρ⟩ (fun r => (∀ c, Ends m c r.2) ∧ r.2.sem = fun _ => 0) := by
  refine (θ_run defs _ _).mono (Q := fun r => (∀ c : Dev nD, Ends m c r.2
      ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu defs _ _ _
    (reflect_intro_fupd_tc_sems (X := Unit) (Ix := Unit) (Name := ℕ) (U := UU) (Lvl := ℕ) (Variants.lift 𝒱₀) (Pipeline.owing O₀) 0 (noBookings fun _ => le_rfl) (Pipeline.owing_of_ne O₀) u₀ (fun _ => pre m) (fun _ => fin m)
      (fun _ => iprop(emp)) Set.univ (launch m ρ) (fun _ c => core_run m c) fun _ => ?_))
  iintro ⟨H, -, Hsc⟩ %s' HSI
  ihave %hsc := (scSems_read_zero m ρ s') $$ [Hsc HSI]
  · isplitl [Hsc] <;> iassumption
  imod (posts_fupd Finset.univ (core_end m) s') $$ [H HSI] with %h
  · isplitl [H] <;> iassumption
  imodintro
  ipureintro
  exact ⟨fun c => h c (Finset.mem_univ c), hsc⟩

end Cert.A2a
-- ==== Proof.Bridge.lean ====
/-
  The exchange of the slabs, read on the whole arrays: where each device starts from its quarter of the positions,
  it ends with its quarter of the rows of the rearranged whole array.
-/
module

public import proofs.«01_k».proof.Proof.Slabs
public import proofs.«01_k».proof.Proof.Gen.ReferenceIdeal.Run
public import Idealize.ShloMosaic.Lib.Layout
public import Idealize.ShloMosaic.Lib.ValueIdxCoords
public import Idealize.ShloMosaic.Lib.Pipeline.Value

@[expose] public section

noncomputable section

namespace Cert.A2a

open Idealize.ShloMosaic
open Cert.ReferenceIdeal Cert.ReferenceIdeal.Gen

variable {α : Type}

/-- The reference's rearrangement: heads and positions each cut in four, the two cuts brought together. -/
def rearranged (w : S32x8192x128.Idx → α) : S128x2048x128.Idx → α :=
  shapeCast S128x2048x128 (transpose S4x4x8x2048x128 [0, 2, 1, 3, 4]
    (shapeCast S4x8x4x2048x128 w shapeCasts_S32x8192x128_S4x8x4x2048x128)
    transposes_S4x8x4x2048x128_S4x4x8x2048x128_0_2_1_3_4) shapeCasts_S4x4x8x2048x128_S128x2048x128

/-- One entry of the rearranged array: row `32 c + 8 s + h`, position `j` is head `8 c + h` at position `2048 s + j`. -/
theorem rearranged_apply (w : S32x8192x128.Idx → α) (i : S128x2048x128.Idx) (k : S32x8192x128.Idx)
    (h0 : (k 0).val = 8 * ((i 0).val / 32) + (i 0).val % 8)
    (h1 : (k 1).val = 2048 * ((i 0).val % 32 / 8) + (i 1).val) (h2 : (k 2).val = (i 2).val) :
    rearranged w i = w k := by
  have hi0 : (i 0).val < 128 := (i 0).isLt
  have hi1 : (i 1).val < 2048 := (i 1).isLt
  have hi2 : (i 2).val < 128 := (i 2).isLt
  let c : Fin 4 := ⟨(i 0).val / 32, by omega⟩
  let s : Fin 4 := ⟨(i 0).val % 32 / 8, by omega⟩
  let h : Fin 8 := ⟨(i 0).val % 8, by omega⟩
  unfold rearranged
  rw [shapeCast_apply _ _ i (ValueIdx.ix5 c s h (i 1) (i 2) : S4x4x8x2048x128.Idx) (by
      rw [Shape.rowMajor_val_five, Shape.rowMajor_val_three]
      show ((((i 0).val / 32 * 4 + (i 0).val % 32 / 8) * 8 + (i 0).val % 8) * 2048 + (i 1).val) * 128 + (i 2).val
        = ((i 0).val * 2048 + (i 1).val) * 128 + (i 2).val
      omega),
    transpose_apply _ _ _ _ (ValueIdx.ix5 c h s (i 1) (i 2) : S4x8x4x2048x128.Idx) (by
      intro b; fin_cases b <;> rfl),
    shapeCast_apply _ _ _ k (by
      rw [Shape.rowMajor_val_five, Shape.rowMajor_val_three]
      show ((k 0).val * 8192 + (k 1).val) * 128 + (k 2).val
        = ((((i 0).val / 32 * 8 + (i 0).val % 8) * 4 + (i 0).val % 32 / 8) * 2048 + (i 1).val) * 128 + (i 2).val
      omega)]

/-- Started from the blocks of a whole array along the positions, the exchange leaves the blocks of the rearranged
    whole array along the rows. -/
theorem exchange_blocks (w : S32x8192x128.Idx → α) (c : Dev Cert.KernelIdeal.nD) :
    exchange (fun s : Dev Cert.KernelIdeal.nD => Layout.block ⟨3, ![32, 2048, 128]⟩ ⟨3, ![32, 8192, 128]⟩ 1 4 s w) c
      = Layout.block ⟨3, ![32, 2048, 128]⟩ ⟨3, ![128, 2048, 128]⟩ 0 4 c (rearranged w) := by
  funext i
  have hi0 : (i 0).val < 32 := (i 0).isLt
  have hc : c.val < 4 := c.isLt
  rw [Layout.block_apply]
  refine Eq.symm (rearranged_apply w _ _ ?_ ?_ ?_)
  · show 8 * c.val + (i 0).val % 8 = 8 * ((c.val * 32 + (i 0).val) / 32) + (c.val * 32 + (i 0).val) % 8
    omega
  · show (i 0).val / 8 * 2048 + (i 1).val = 2048 * ((c.val * 32 + (i 0).val) % 32 / 8) + (i 1).val
    omega
  · rfl

end Cert.A2a

end
-- ==== Proof.AttnMath.lean ====
module

public import Idealize.ShloMosaic.Lib.Pointwise
public import Idealize.ShloMosaic.Lib.WordCmp

/-!
# Averages weighed by exponentials, over the extended reals

`average s v` is what attention computes for one query and one component: the values `v` weighed by the exponentials of
the scores `s` less their largest, over the sum of those exponentials. A score of negative infinity has weight zero, so
an average over all keys is the average over any part of them that holds every key with another score
(`average_of_injective`); and the part may be given in two pieces whose sums are taken apart and divided once
(`average_two`), as the kernel does. The scores are finite or negative infinity, and one is finite: the values may be
any extended reals.
-/

@[expose] public section

noncomputable section

namespace Cert.Attn

open Idealize.ShloMosaic

variable {ι κ : Type} [Fintype ι] [Fintype κ]

/-- The largest of the scores (negative infinity of none). -/
abbrev largest (s : ι → EReal) : EReal := Finset.univ.fold max ⊥ s

/-- The values weighed by the exponentials of the scores. -/
def average (s v : ι → EReal) : EReal :=
  ∑ j, Ideal.div (Ideal.exp (s j - largest s)) (∑ k, Ideal.exp (s k - largest s)) * v j

/-- Scores an average is taken by: none is positive infinity, and some is not negative infinity. -/
structure Proper (s : ι → EReal) : Prop where
  ne_top : ∀ j, s j ≠ ⊤
  some_ne_bot : ∃ j, s j ≠ ⊥

theorem le_largest (s : ι → EReal) (j : ι) : s j ≤ largest s := (Finset.le_fold_max _).2 (.inr ⟨j, Finset.mem_univ j, le_rfl⟩)

theorem largest_le {s : ι → EReal} {b : EReal} (h : ∀ j, s j ≤ b) : largest s ≤ b :=
  (Finset.fold_max_le _).2 ⟨bot_le, fun j _ => h j⟩

theorem Proper.largest_ne_bot {s : ι → EReal} (h : Proper s) : largest s ≠ ⊥ := by
  obtain ⟨j, hj⟩ := h.some_ne_bot
  exact fun e => hj (le_bot_iff.1 (e ▸ le_largest s j))

/-- The largest score is one of them. -/
theorem Proper.exists_largest {s : ι → EReal} (h : Proper s) : ∃ j, s j = largest s := by
  by_contra hn
  push Not at hn
  have hlt : largest s < largest s :=
    (Finset.fold_max_lt _).2 ⟨bot_lt_iff_ne_bot.2 h.largest_ne_bot, fun j _ => lt_of_le_of_ne (le_largest s j) (hn j)⟩
  exact lt_irrefl _ hlt

theorem Proper.largest_ne_top {s : ι → EReal} (h : Proper s) : largest s ≠ ⊤ := by
  obtain ⟨j, hj⟩ := h.exists_largest
  exact hj ▸ h.ne_top j

theorem exp_nonneg (x : EReal) : 0 ≤ Ideal.exp x := by
  induction x with
  | bot => exact le_rfl
  | top => exact le_top
  | coe r => exact EReal.coe_nonneg.2 (Real.exp_nonneg r)

/-- The sum of the weights is at least the weight of the largest score, one. -/
theorem Proper.one_le_sum {s : ι → EReal} (h : Proper s) : 1 ≤ ∑ k, Ideal.exp (s k - largest s) := by
  obtain ⟨j, hj⟩ := h.exists_largest
  refine le_trans (le_of_eq ?_) (Finset.single_le_sum (fun k _ => exp_nonneg _) (Finset.mem_univ j))
  rw [hj, EReal.sub_self h.largest_ne_top h.largest_ne_bot]
  show (1 : EReal) = ((Real.exp 0 : ℝ) : EReal)
  rw [Real.exp_zero, EReal.coe_one]

theorem div_of_one_le {L : EReal} (hL : 1 ≤ L) (x : EReal) : Ideal.div x L = x * L⁻¹ := by
  have : L ≠ 0 := fun e => absurd (e ▸ hL) (by norm_num)
  rw [Ideal.div, if_neg this]

/-- A factor that is nonnegative and not positive infinity goes into a sum. -/
theorem sum_mul_of_nonneg {c : EReal} (h0 : 0 ≤ c) (ht : c ≠ ⊤) (f : ι → EReal) : (∑ j, f j) * c = ∑ j, f j * c := by
  classical
  induction (Finset.univ : Finset ι) using Finset.induction_on with
  | empty => simp
  | insert a t ha ih => rw [Finset.sum_insert ha, Finset.sum_insert ha, EReal.right_distrib_of_nonneg_of_ne_top h0 ht, ih]

/-- A part of proper scores outside which every score is negative infinity is proper. -/
theorem Proper.part {s : κ → EReal} (h : Proper s) (f : ι → κ) (hout : ∀ k, k ∉ Set.range f → s k = ⊥) :
    Proper fun j => s (f j) where
  ne_top j := h.ne_top (f j)
  some_ne_bot := by
    obtain ⟨k, hk⟩ := h.some_ne_bot
    by_contra hn
    push Not at hn
    by_cases hr : k ∈ Set.range f
    · obtain ⟨j, rfl⟩ := hr
      exact hk (hn j)
    · exact hk (hout k hr)

/-- An average over all keys is the average over any part of them outside which every score is negative infinity. -/
theorem average_of_injective {s v : κ → EReal} (h : Proper s) (f : ι → κ) (hf : Function.Injective f)
    (hout : ∀ k, k ∉ Set.range f → s k = ⊥) : average (fun j => s (f j)) (fun j => v (f j)) = average s v := by
  have hM : largest (fun j => s (f j)) = largest s := by
    refine le_antisymm (largest_le fun j => le_largest s (f j)) (largest_le fun k => ?_)
    by_cases hk : k ∈ Set.range f
    · obtain ⟨j, rfl⟩ := hk
      exact le_largest (fun j => s (f j)) j
    · rw [hout k hk]; exact bot_le
  have hout' : ∀ k, k ∉ Set.range f → Ideal.exp (s k - largest s) = 0 := fun k hk => by
    rw [hout k hk, EReal.bot_sub]; rfl
  have hL : ∑ j, Ideal.exp (s (f j) - largest s) = ∑ k, Ideal.exp (s k - largest s) :=
    Fintype.sum_of_injective f hf _ _ hout' fun _ => rfl
  unfold average
  rw [hM, hL]
  refine Fintype.sum_of_injective f hf _ (fun k => _) (fun k hk => ?_) fun _ => rfl
  rw [hout' k hk, div_of_one_le h.one_le_sum, zero_mul, zero_mul]

/-- The average over two pieces: the two largest scores' larger, the sums over each piece added, and one division. -/
theorem average_two (s : ι ⊕ κ → EReal) (v : ι ⊕ κ → EReal) (h : Proper s) :
    Ideal.div
        ((∑ j, Ideal.exp (s (.inl j) - max (largest fun j => s (.inl j)) (largest fun k => s (.inr k))) * v (.inl j))
          + ∑ k, Ideal.exp (s (.inr k) - max (largest fun j => s (.inl j)) (largest fun k => s (.inr k))) * v (.inr k))
        ((∑ j, Ideal.exp (s (.inl j) - max (largest fun j => s (.inl j)) (largest fun k => s (.inr k))))
          + ∑ k, Ideal.exp (s (.inr k) - max (largest fun j => s (.inl j)) (largest fun k => s (.inr k))))
      = average s v := by
  have hM : max (largest fun j => s (.inl j)) (largest fun k => s (.inr k)) = largest s := by
    refine le_antisymm (max_le (largest_le fun j => le_largest s _) (largest_le fun k => le_largest s _)) (largest_le fun x => ?_)
    cases x with
    | inl j => exact le_max_of_le_left (le_largest (fun j => s (.inl j)) j)
    | inr k => exact le_max_of_le_right (le_largest (fun k => s (.inr k)) k)
  rw [hM, ← Fintype.sum_sum_type (fun x => Ideal.exp (s x - largest s)),
    ← Fintype.sum_sum_type (fun x => Ideal.exp (s x - largest s) * v x), div_of_one_le h.one_le_sum]
  have hL := h.one_le_sum
  rw [sum_mul_of_nonneg (EReal.inv_nonneg_of_nonneg (le_trans zero_le_one hL)) (ne_of_lt (EReal.inv_lt_top _))]
  unfold average
  exact Finset.sum_congr rfl fun x _ => by rw [div_of_one_le hL, mul_right_comm]

/-! ## One head's attention -/

/-- Query `i` sees key `j`: it is at most 128 positions away, or one of the two is among the first 32. -/
def Sees (i j : ℕ) : Prop := (i ≤ j + 128 ∧ j ≤ i + 128) ∨ j < 32 ∨ i < 32

instance (i j : ℕ) : Decidable (Sees i j) := inferInstanceAs (Decidable (_ ∨ _))

/-- The factor on the scores. -/
abbrev scale : EReal := Ideal.ofBits .f32 0x3DB504F3#32

/-- The score of a query (a row of 128) and a key. -/
def score (q k : Fin 128 → EReal) : EReal := (∑ x, q x * k x) * scale

/-- The scores of query `i` over all keys: of a key it does not see, negative infinity. -/
def scores (q : Fin 128 → EReal) (k : Fin 8192 → Fin 128 → EReal) (i : ℕ) (j : Fin 8192) : EReal :=
  if Sees i j then score q (k j) else ⊥

/-- The pattern of negative infinity. -/
theorem ofBits_neg_inf : Ideal.ofBits .f32 0xFF800000#32 = ⊥ := by simp [Ideal.ofBits, Ideal.ieee]

/-- The pattern of positive infinity. -/
theorem ofBits_inf : Ideal.ofBits .f32 0x7F800000#32 = ⊤ := by simp [Ideal.ofBits, Ideal.ieee]

/-- The factor is a real number. -/
theorem scale_real : ∃ r : ℝ, scale = (r : EReal) := by
  unfold scale
  simp only [Ideal.ofBits, Ideal.ieee]
  rw [if_neg (by decide), if_neg (by decide)]
  exact ⟨_, rfl⟩

/-- An extended real that is neither infinity. -/
def Finite (x : EReal) : Prop := ∃ r : ℝ, x = (r : EReal)

theorem finite_sum {f : ι → EReal} (h : ∀ j, Finite (f j)) : Finite (∑ j, f j) := by
  classical
  induction (Finset.univ : Finset ι) using Finset.induction_on with
  | empty => exact ⟨0, by simp⟩
  | insert a t ha ih =>
    obtain ⟨x, hx⟩ := h a
    obtain ⟨y, hy⟩ := ih
    exact ⟨x + y, by rw [Finset.sum_insert ha, hx, hy, EReal.coe_add]⟩

theorem Finite.mul {x y : EReal} (hx : Finite x) (hy : Finite y) : Finite (x * y) := by
  obtain ⟨a, rfl⟩ := hx
  obtain ⟨b, rfl⟩ := hy
  exact ⟨a * b, (EReal.coe_mul a b).symm⟩

theorem score_finite {q k : Fin 128 → EReal} (hq : ∀ x, Finite (q x)) (hk : ∀ x, Finite (k x)) : Finite (score q k) :=
  (finite_sum fun x => (hq x).mul (hk x)).mul scale_real

/-- The scores of finite queries and keys: every query sees the first key. -/
theorem scores_proper {q : Fin 128 → EReal} {k : Fin 8192 → Fin 128 → EReal} (hq : ∀ x, Finite (q x))
    (hk : ∀ j x, Finite (k j x)) (i : ℕ) : Proper (scores q k i) where
  ne_top j := by
    unfold scores
    split
    · obtain ⟨r, hr⟩ := score_finite hq (hk j)
      rw [hr]; exact EReal.coe_ne_top r
    · exact bot_ne_top
  some_ne_bot := ⟨0, by
    obtain ⟨r, hr⟩ := score_finite hq (hk 0)
    rw [scores, if_pos (.inr (.inl (by decide))), hr]
    exact EReal.coe_ne_bot r⟩

/-! ## The masks, as words -/

/-- The absolute difference of two positions at most 128, as the programs compute it. -/
theorem near_word {i j : ℕ} (hi : i < 8192) (hj : j < 8192) :
    IntOp.cmpi .sle (IntOp.absi (IntOp.subi (BitVec.ofNat 32 i) (BitVec.ofNat 32 j))) 128#32
      = BitVec.ofBool (decide (i ≤ j + 128 ∧ j ≤ i + 128)) := by
  have key : ∃ n, n < 8192 ∧ (n ≤ 128 ↔ i ≤ j + 128 ∧ j ≤ i + 128)
      ∧ IntOp.absi (IntOp.subi (BitVec.ofNat 32 i) (BitVec.ofNat 32 j)) = BitVec.ofNat 32 n := by
    unfold IntOp.absi IntOp.subi
    rcases Nat.lt_or_ge i j with h | h
    · refine ⟨j - i, by omega, by omega, ?_⟩
      have e : (BitVec.ofNat 32 i - BitVec.ofNat 32 j).msb = true := by
        rw [BitVec.msb_eq_decide, BitVec.toNat_sub, BitVec.toNat_ofNat, BitVec.toNat_ofNat]
        simp only [decide_eq_true_eq]
        omega
      rw [if_pos e]
      apply BitVec.eq_of_toNat_eq
      rw [BitVec.toNat_neg, BitVec.toNat_sub, BitVec.toNat_ofNat, BitVec.toNat_ofNat, BitVec.toNat_ofNat]
      omega
    · refine ⟨i - j, by omega, by omega, ?_⟩
      have e : (BitVec.ofNat 32 i - BitVec.ofNat 32 j).msb ≠ true := by
        rw [BitVec.msb_eq_decide, BitVec.toNat_sub, BitVec.toNat_ofNat, BitVec.toNat_ofNat]
        simp only [ne_eq, decide_eq_true_eq]
        omega
      rw [if_neg e]
      apply BitVec.eq_of_toNat_eq
      rw [BitVec.toNat_sub, BitVec.toNat_ofNat, BitVec.toNat_ofNat, BitVec.toNat_ofNat]
      omega
  obtain ⟨n, hn, hiff, e⟩ := key
  rw [e, WordCmp.cmpi_sle_ofNat (by omega) (by norm_num)]
  simp only [hiff]

end Cert.Attn

end

end
-- ==== Proof.AttnBlocks.lean ====
module

public import proofs.«01_k».proof.Proof.Gen.AttentionIdeal.Skeleton
public import proofs.«01_k».proof.Proof.AttnMath

/-!
# What the attention kernel's stores hold

The kernel takes the 2048 queries of a head in four tiles of 512. The first tile reads the first 768 keys; each other
tile reads the first 128 keys and a band of 768 keys that starts 128 before the tile. Last, the first 32 queries are
taken again over all 8192 keys. Each of the five is `average` over all keys.
-/

@[expose] public section

noncomputable section

namespace Cert.Attn

open Idealize.ShloMosaic Idealize.ShloMosaic.Pointwise
open Cert.AttentionIdeal Cert.AttentionIdeal.Gen

/-- The name of the mask's value stands for negative infinity. -/
theorem mask_eq (v : BitVec 32) : Named.named (F := Ideal) κ "mask" (φ := .f32) v = (⊥ : EReal) :=
  IdealRules.named_const.ideal_named_scalar (φ := .f32) κ "mask" v ⊥ rfl

/-! ## A band tile -/

/-- The scores of the first 128 keys, of which the first 32 are seen. -/
abbrev firstScores (k : FVec Ideal S2304x128 .bf16) (q : FVec Ideal S1x512x128 .bf16) : FVec Ideal S512x128 .f32 := k0_pay8 k q

/-- The masked scores of the band that starts at key `lo`, of the tile that starts at query `at0`. -/
def bandScores (lo at0 : ℕ) (hs : S2304x128.Slices ![lo, 0] S768x128) (k : FVec Ideal S2304x128 .bf16)
    (q : FVec Ideal S1x512x128 .bf16) : FVec Ideal S512x768 .f32 :=
  have row : IVec S512x768 32 := addi (broadcast S512x768 (BitVec.ofNat 32 at0)) (iota .tc S512x768 32 [0] iota_S512x768_d0_w32)
  have col : IVec S512x768 32 := addi (broadcast S512x768 (BitVec.ofNat 32 lo)) (iota .tc S512x768 32 [1] iota_S512x768_d1_w32)
  select (andi (ori (cmpi .sle (absi (subi row col)) (broadcast S512x768 128#32)) (cmpi .slt col (broadcast S512x768 32#32)))
      (cmpi .sge row (broadcast S512x768 32#32)))
    (mulf (matmul dot_S512x128_S768x128_S512x768_1_1_0_0_n_n none (k0_pay7 q)
        (extractStridedSlice S768x128 ![lo, 0] k hs) (constant S512x768 .f32 0x00000000#32))
      (broadcast S512x768 (Scalar.ofBits .f32 0x3DB504F3#32)))
    (broadcast S512x768 (Named.named κ "mask" 0xCE6E6B28#32))

/-- The larger of the two pieces' largest scores, of each query. -/
def peak (a : FVec Ideal S512x128 .f32) (b : FVec Ideal S512x768 .f32) : FVec Ideal S512x1 .f32 :=
  maximumf (shapeCast S512x1 (multiReduction .maximumf [1] S512 a 0xFF800000#32 reduces_S512x128_S512 (.inl rfl) rfl) shapeCasts_S512_S512x1)
    (shapeCast S512x1 (multiReduction .maximumf [1] S512 b 0xFF800000#32 reduces_S512x768_S512 (.inl rfl) rfl) shapeCasts_S512_S512x1)

/-- The weights of the first keys. -/
def firstWeights (a : FVec Ideal S512x128 .f32) (p : FVec Ideal S512x1 .f32) : FVec Ideal S512x128 .f32 :=
  exp (subf a (broadcastTo S512x128 p broadcasts_S512x1_S512x128))

/-- The weights of the band's keys. -/
def bandWeights (b : FVec Ideal S512x768 .f32) (p : FVec Ideal S512x1 .f32) : FVec Ideal S512x768 .f32 :=
  exp (subf b (broadcastTo S512x768 p broadcasts_S512x1_S512x768))

/-- The two pieces' weighed values added, over the two pieces' weights added. -/
def bandOut (lo : ℕ) (hs : S2304x128.Slices ![lo, 0] S768x128) (v : FVec Ideal S2304x128 .bf16)
    (a : FVec Ideal S512x128 .f32) (b : FVec Ideal S512x768 .f32) : FVec Ideal S1x512x128 .bf16 :=
  shapeCast S1x512x128 (truncf .bf16 (divf
    (addf (matmul dot_S512x128_S128x128_S512x128_1_0_0_1_n_n none (truncf .bf16 a bitsLt_bf16_f32)
        (extractStridedSlice S128x128 ![0, 0] v slices_S2304x128_o0_0_S128x128) (constant S512x128 .f32 0x00000000#32))
      (matmul dot_S512x768_S768x128_S512x128_1_0_0_1_n_n none (truncf .bf16 b bitsLt_bf16_f32)
        (extractStridedSlice S768x128 ![lo, 0] v hs) (constant S512x128 .f32 0x00000000#32)))
    (broadcastTo S512x128 (addf
      (shapeCast S512x1 (multiReduction .add [1] S512 a 0x00000000#32 reduces_S512x128_S512 (.inl rfl) rfl) shapeCasts_S512_S512x1)
      (shapeCast S512x1 (multiReduction .add [1] S512 b 0x00000000#32 reduces_S512x768_S512 (.inl rfl) rfl) shapeCasts_S512_S512x1))
      broadcasts_S512x1_S512x128)) bitsLt_bf16_f32) shapeCasts_S512x128_S1x512x128

/-- A tile whose band starts at key `lo` and whose queries start at `at0`. -/
def bandTile (lo at0 : ℕ) (hs : S2304x128.Slices ![lo, 0] S768x128) (k v : FVec Ideal S2304x128 .bf16)
    (q : FVec Ideal S1x512x128 .bf16) : FVec Ideal S1x512x128 .bf16 :=
  bandOut lo hs v
    (firstWeights (firstScores k q) (peak (firstScores k q) (bandScores lo at0 hs k q)))
    (bandWeights (bandScores lo at0 hs k q) (peak (firstScores k q) (bandScores lo at0 hs k q)))

/-- The second tile. -/
theorem tile1_eq (k v : FVec Ideal S2304x128 .bf16) (q : FVec Ideal S1x512x128 .bf16) :
    k0_pay12 v (k0_pay8 k q) (k0_pay9 k q) k0_pay10 (iota .tc S512x768 32 [1] iota_S512x768_d1_w32) k0_pay11
      = bandTile 384 512 slices_S2304x128_o384_0_S768x128 k v q := rfl

/-- The third tile. -/
theorem tile2_eq (k v : FVec Ideal S2304x128 .bf16) (q : FVec Ideal S1x512x128 .bf16) :
    k0_pay19 v (k0_pay17 k q) (k0_pay18 k q) = bandTile 896 1024 slices_S2304x128_o896_0_S768x128 k v q := rfl

/-- The fourth tile. -/
theorem tile3_eq (k v : FVec Ideal S2304x128 .bf16) (q : FVec Ideal S1x512x128 .bf16) :
    k0_pay25 v (k0_pay21 k q) (k0_pay22 k q) k0_pay23 (iota .tc S512x768 32 [1] iota_S512x768_d1_w32) k0_pay24
      = bandTile 1408 1536 slices_S2304x128_o1408_0_S768x128 k v q := rfl

/-! ### A band tile at an index, where its keys are the first of `K` and its query is `Q` -/

variable (K V : Fin 8192 → Fin 128 → EReal) (Q : Fin 128 → EReal)

/-- Rows of a buffer are the first of `K`. -/
def Firsts (k : FVec Ideal S2304x128 .bf16) : Prop := ∀ (n : Fin 2304) (x : Fin 128), k (ix2 n x) = K ⟨n, by omega⟩ x

variable {K V Q}

theorem firstScores_apply {k : FVec Ideal S2304x128 .bf16} {q : FVec Ideal S1x512x128 .bf16} (r : Fin 512) (hk : Firsts K k)
    (hq : ∀ x, q (ix3 0 r x) = Q x) (i : ℕ) (hi : 512 ≤ i) (j : Fin 128) :
    firstScores k q (ix2 r j) = scores Q K i ⟨j, by omega⟩ := by
  pointwise [k0_pay8, k0_pay7]
  rw [mask_eq, WordCmp.addi_ofNat, WordCmp.cmpi_slt_ofNat (by omega) (by norm_num), WordCmp.select_decide]
  have e : Sees i j ↔ 0 + (j : ℕ) < 32 := by unfold Sees; omega
  simp only [scores, score, e, hq, hk _ _]

theorem bandScores_apply {lo at0 : ℕ} (hs : S2304x128.Slices ![lo, 0] S768x128) (hlo : lo + 768 ≤ 2304) (h32 : 32 ≤ at0)
    (hat : at0 ≤ 2048) {k : FVec Ideal S2304x128 .bf16} {q : FVec Ideal S1x512x128 .bf16} (r : Fin 512) (hk : Firsts K k)
    (hq : ∀ x, q (ix3 0 r x) = Q x) (j : Fin 768) :
    bandScores lo at0 hs k q (ix2 r j) = scores Q K (at0 + r) ⟨lo + j, by omega⟩ := by
  pointwise [bandScores, k0_pay7]
  rw [mask_eq, WordCmp.addi_ofNat, WordCmp.addi_ofNat, near_word (by omega) (by omega),
    WordCmp.cmpi_slt_ofNat (by omega) (by norm_num), WordCmp.cmpi_sge_ofNat (by omega) (by norm_num), WordCmp.ori_ofBool,
    WordCmp.andi_ofBool, ← Bool.decide_or, ← Bool.decide_and, WordCmp.select_decide]
  have e : Sees (at0 + r) (lo + j)
      ↔ ((at0 + r ≤ lo + j + 128 ∧ lo + j ≤ at0 + r + 128) ∨ lo + j < 32) ∧ 32 ≤ at0 + (r : ℕ) := by
    unfold Sees; omega
  simp only [scores, score, e, hq, hk _ _]

theorem peak_apply (a : FVec Ideal S512x128 .f32) (b : FVec Ideal S512x768 .f32) (r : Fin 512) (z : Fin 1) :
    peak a b (ix2 r z) = max (largest fun j => a (ix2 r j)) (largest fun j => b (ix2 r j)) := by
  pointwise [peak]
  rw [ofBits_neg_inf]

theorem firstWeights_apply (a : FVec Ideal S512x128 .f32) (p : FVec Ideal S512x1 .f32) (r : Fin 512) (j : Fin 128) :
    firstWeights a p (ix2 r j) = Ideal.exp (a (ix2 r j) - p (ix2 r 0)) := by
  pointwise [firstWeights]

theorem bandWeights_apply (b : FVec Ideal S512x768 .f32) (p : FVec Ideal S512x1 .f32) (r : Fin 512) (j : Fin 768) :
    bandWeights b p (ix2 r j) = Ideal.exp (b (ix2 r j) - p (ix2 r 0)) := by
  pointwise [bandWeights]

theorem bandOut_apply {lo : ℕ} (hs : S2304x128.Slices ![lo, 0] S768x128) (hlo : lo + 768 ≤ 2304)
    (v : FVec Ideal S2304x128 .bf16) (a : FVec Ideal S512x128 .f32) (b : FVec Ideal S512x768 .f32) (z : Fin 1) (r : Fin 512)
    (d : Fin 128) :
    bandOut lo hs v a b (ix3 z r d)
      = Ideal.div (∑ x, a (ix2 r x) * v (ix2 ⟨x, by omega⟩ d) + ∑ x, b (ix2 r x) * v (ix2 ⟨lo + x, by omega⟩ d))
          (∑ x, a (ix2 r x) + ∑ x, b (ix2 r x)) := by
  pointwise [bandOut]

/-- A band tile is the average over all keys: the first keys and the band hold every key its queries see. -/
theorem bandTile_apply {lo at0 : ℕ} (hs : S2304x128.Slices ![lo, 0] S768x128) (hlo : lo + 768 ≤ 2304) (hat : lo + 128 = at0)
    (h512 : 512 ≤ at0) {k v : FVec Ideal S2304x128 .bf16} {q : FVec Ideal S1x512x128 .bf16} (hk : Firsts K k) (hv : Firsts V v)
    (r : Fin 512) (hq : ∀ x, q (ix3 0 r x) = Q x) (hQ : ∀ x, Finite (Q x)) (hK : ∀ j x, Finite (K j x)) (z : Fin 1)
    (d : Fin 128) :
    bandTile lo at0 hs k v q (ix3 z r d) = average (scores Q K (at0 + r)) fun j => V j d := by
  let f : Fin 128 ⊕ Fin 768 → Fin 8192 := Sum.elim (fun j => ⟨j, by omega⟩) fun j => ⟨lo + j, by omega⟩
  have hf : Function.Injective f := by
    rintro (x | x) (y | y) h <;> have h := congrArg Fin.val h <;> simp only [f, Sum.elim_inl, Sum.elim_inr] at h
    · exact congrArg Sum.inl (Fin.ext h)
    · omega
    · omega
    · exact congrArg Sum.inr (Fin.ext (by omega))
  have hout : ∀ j, j ∉ Set.range f → scores Q K (at0 + r) j = ⊥ := by
    intro j hj
    refine if_neg fun h => hj ?_
    by_cases h1 : (j : ℕ) < 128
    · exact ⟨.inl ⟨j, h1⟩, rfl⟩
    · exact ⟨.inr ⟨j - lo, by unfold Sees at h; omega⟩, Fin.ext (by simp only [f, Sum.elim_inr]; unfold Sees at h; omega)⟩
  have hp := scores_proper hQ hK (at0 + r)
  rw [← average_of_injective hp f hf hout]
  refine Eq.trans ?_ (average_two _ _ (hp.part f hout))
  unfold bandTile
  rw [bandOut_apply hs hlo]
  simp only [firstWeights_apply, bandWeights_apply, peak_apply, firstScores_apply r hk hq (at0 + r) (by omega),
    bandScores_apply hs hlo (by omega : 32 ≤ at0) (by omega) r hk hq, hv _ _]
  rfl

/-! ### The first tile, and the first queries over all keys -/

/-- The first tile, at a query that is not among the first 32. -/
theorem firstTile_apply {k0 : FVec Ideal S1x1x2048x128 .fp8e4m3} {k1 : FVec Ideal S1x1x256x128 .fp8e4m3}
    {v : FVec Ideal S2304x128 .bf16} {q : FVec Ideal S1x512x128 .bf16} (hk : Firsts K (k0_pay2 (F := Ideal) k0 k1)) (hv : Firsts V v)
    (r : Fin 512) (hr : 32 ≤ (r : ℕ)) (hq : ∀ x, q (ix3 0 r x) = Q x) (hQ : ∀ x, Finite (Q x)) (hK : ∀ j x, Finite (K j x))
    (z : Fin 1) (d : Fin 128) :
    k0_pay6 v (k0_pay4 k0 k1 q) k0_pay5 (ix3 z r d) = average (scores Q K r) fun j => V j d := by
  let f : Fin 768 → Fin 8192 := fun j => ⟨j, by omega⟩
  have hf : Function.Injective f := fun x y h => Fin.ext (Fin.mk.inj h)
  have hout : ∀ j, j ∉ Set.range f → scores Q K r j = ⊥ := by
    intro j hj
    refine if_neg fun h => hj ⟨⟨j, by unfold Sees at h; omega⟩, rfl⟩
  have hs : ∀ j : Fin 768, Scalar.select (α := EReal) (k0_pay5 (ix2 r j)) (k0_pay4 (F := Ideal) k0 k1 q (ix2 r j)) ⊥ = scores Q K r (f j) := by
    intro j
    have e4 : k0_pay4 (F := Ideal) k0 k1 q (ix2 r j) = score Q (K (f j)) := by
      unfold k0_pay4
      generalize k0_pay2 (F := Ideal) k0 k1 = k at hk
      pointwise []
      simp only [score, hq, hk _ _]
      rfl
    have e5 : k0_pay5 (ix2 r j) = BitVec.ofBool (decide (Sees r j)) := by
      pointwise [k0_pay5]
      rw [WordCmp.addi_ofNat, WordCmp.addi_ofNat, near_word (by omega) (by omega),
        WordCmp.cmpi_slt_ofNat (by omega) (by norm_num), WordCmp.cmpi_sge_ofNat (by omega) (by norm_num), WordCmp.ori_ofBool,
        WordCmp.andi_ofBool, ← Bool.decide_or, ← Bool.decide_and]
      exact congrArg BitVec.ofBool (decide_eq_decide.2 (by unfold Sees; omega))
    rw [e4, e5, WordCmp.select_decide]
    rfl
  rw [← average_of_injective (scores_proper hQ hK r) f hf hout]
  pointwise [k0_pay6]
  simp only [mask_eq, ofBits_neg_inf, hs, hv _ _]
  rfl

/-- A query over all keys, as the last store takes it. -/
theorem allKeys_apply {w : FVec Ideal S8192x128 .bf16} {s : FVec Ideal S32x8192 .f32} {p : FVec Ideal S32x1 .f32} (r : Fin 32)
    (hw : ∀ n x, w (ix2 n x) = V n x) (hs : ∀ j, s (ix2 r j) = score Q (K j)) (hp : p (ix2 r 0) = largest fun j => s (ix2 r j))
    (z : Fin 1) (d : Fin 128) :
    k0_pay1 w s p (ix3 z r d) = average (scores Q K r) fun j => V j d := by
  have e : ∀ j, s (ix2 r j) = scores Q K r j := fun j => (hs j).trans (if_pos (.inr (.inr r.isLt))).symm
  pointwise [k0_pay1]
  simp only [hp, hw, e]
  rfl

end Cert.Attn

end

end
-- ==== Proof.AttnLoads.lean ====
module

public import proofs.«01_k».proof.Proof.Gen.AttentionIdeal.Value
public import proofs.«01_k».proof.Proof.AttnBlocks
public import Idealize.ShloMosaic.Lib.WholeRead
public import Idealize.ShloMosaic.Lib.WritesUnit

/-!
# What a grid point leaves in its block of the result

A grid point reads one head's queries, keys and values: the keys and values lie by device, 2048 positions each. The five
stores leave every row of the block at its average; the last store overwrites the first 32 rows.
-/

@[expose] public section

noncomputable section

namespace Cert.Attn

open Idealize.ShloMosaic Idealize.ShloMosaic.Pointwise
open Cert.AttentionIdeal Cert.AttentionIdeal.Gen

/-- The 8192 rows of a block that lie 2048 by 2048. -/
def rows (X : S4x1x2048x128.Idx → EReal) (n : Fin 8192) (x : Fin 128) : EReal :=
  X (ix4 ⟨n / 2048, by omega⟩ 0 ⟨n % 2048, by omega⟩ x)

/-- Row `p` of device `s`'s part. -/
theorem rows_at (X : S4x1x2048x128.Idx → EReal) (s : Fin 4) (p : Fin 2048) (n : Fin 8192) (h : (n : ℕ) = 2048 * s + p)
    (x : Fin 128) : rows X n x = X (ix4 s 0 p x) := by
  unfold rows
  congr 2
  · exact Fin.ext (by show (n : ℕ) / 2048 = s; omega)
  · exact Fin.ext (by show (n : ℕ) % 2048 = p; omega)

/-- A load of rows of the queries. -/
theorem load_queries {σ : RefSig} {m : Memref σ .tc .vmem S1x2048x128 .bf16} (h : m.IsWhole) (X : FVec Ideal S1x2048x128 .bf16) (o n : ℕ)
    (inb : ∀ a, (![0, o, 0] : Fin 3 → ℕ) a + (![1, n, 128] : Fin 3 → ℕ) a ≤ S1x2048x128.size a) (r : Fin n) (x : Fin 128)
    (hr : o + r < 2048) :
    View.readAt (Elt Ideal) m.view (Rect.unit (s := S1x2048x128) ![0, o, 0] ![1, n, 128] inb).toLoadRect (h.unread X) (ix3 0 r x)
      = X (ix3 0 ⟨o + r, hr⟩ x) := by
  rw [h.readAt_unread]
  congr 1
  funext a
  refine Fin.ext ?_
  fin_cases a
  · rfl
  · show o + 1 * (r : ℕ) = o + r; omega
  · show 0 + 1 * (x : ℕ) = x; omega

/-- A load of a device's rows of the keys or of the values. -/
theorem load_rows {σ : RefSig} {e : EltTy} {m : Memref σ .tc .vmem S4x1x2048x128 e} (h : m.IsWhole) (X : Vec Ideal S4x1x2048x128 e) (s n : ℕ)
    (inb : ∀ a, (![s, 0, 0, 0] : Fin 4 → ℕ) a + (![1, 1, n, 128] : Fin 4 → ℕ) a ≤ S4x1x2048x128.size a) (p : Fin n) (x : Fin 128)
    (hs : s < 4) (hp : (p : ℕ) < 2048) :
    View.readAt (Elt Ideal) m.view (Rect.unit (s := S4x1x2048x128) ![s, 0, 0, 0] ![1, 1, n, 128] inb).toLoadRect (h.unread X) (ix4 0 0 p x)
      = X (ix4 ⟨s, hs⟩ 0 ⟨p, hp⟩ x) := by
  rw [h.readAt_unread]
  congr 1
  funext a
  refine Fin.ext ?_
  fin_cases a
  · rfl
  · rfl
  · show 0 + 1 * (p : ℕ) = p; omega
  · show 0 + 1 * (x : ℕ) = x; omega

/-! ## The rows joined -/

theorem firsts_keys (X : FVec Ideal S4x1x2048x128 .fp8e4m3) {a : FVec Ideal S1x1x2048x128 .fp8e4m3} {b : FVec Ideal S1x1x256x128 .fp8e4m3}
    (ha : ∀ p x, a (ix4 0 0 p x) = X (ix4 0 0 p x)) (hb : ∀ p x, b (ix4 0 0 p x) = X (ix4 1 0 ⟨p, by omega⟩ x)) :
    Firsts (rows X) (k0_pay2 (F := Ideal) a b) := by
  intro n x
  pointwise [k0_pay2]
  split
  · rw [ha]; exact (rows_at X 0 _ _ (by simp) x).symm
  · rw [hb]; exact (rows_at X 1 _ _ (by simp; omega) x).symm

theorem firsts_values (X : FVec Ideal S4x1x2048x128 .bf16) {a : FVec Ideal S1x1x2048x128 .bf16} {b : FVec Ideal S1x1x256x128 .bf16}
    (ha : ∀ p x, a (ix4 0 0 p x) = X (ix4 0 0 p x)) (hb : ∀ p x, b (ix4 0 0 p x) = X (ix4 1 0 ⟨p, by omega⟩ x)) :
    Firsts (rows X) (k0_pay3 (F := Ideal) a b) := by
  intro n x
  pointwise [k0_pay3]
  split
  · rw [ha]; exact (rows_at X 0 _ _ (by simp) x).symm
  · rw [hb]; exact (rows_at X 1 _ _ (by simp; omega) x).symm

/-- A row of four parts joined. -/
theorem joined (X : S4x1x2048x128.Idx → EReal) {a b c d : S1x1x2048x128.Idx → EReal}
    (ha : ∀ p x, a (ix4 0 0 p x) = X (ix4 0 0 p x)) (hb : ∀ p x, b (ix4 0 0 p x) = X (ix4 1 0 p x))
    (hc : ∀ p x, c (ix4 0 0 p x) = X (ix4 2 0 p x)) (hd : ∀ p x, d (ix4 0 0 p x) = X (ix4 3 0 p x)) (n : Fin 8192) (x : Fin 128) :
    (if h : (n : ℕ) < 2048 then a (ix4 0 0 ⟨n, h⟩ x)
      else if h : (n : ℕ) - 2048 < 2048 then b (ix4 0 0 ⟨n - 2048, h⟩ x)
      else if h : (n : ℕ) - 2048 - 2048 < 2048 then c (ix4 0 0 ⟨n - 2048 - 2048, h⟩ x)
      else d (ix4 0 0 ⟨n - 2048 - 2048 - 2048, by omega⟩ x)) = rows X n x := by
  split
  · rw [ha]; exact (rows_at X 0 _ _ (by simp) x).symm
  split
  · rw [hb]; exact (rows_at X 1 _ _ (by simp; omega) x).symm
  split
  · rw [hc]; exact (rows_at X 2 _ _ (by simp; omega) x).symm
  · rw [hd]; exact (rows_at X 3 _ _ (by simp; omega) x).symm

theorem all_values (X : FVec Ideal S4x1x2048x128 .bf16) {a b c d : FVec Ideal S1x1x2048x128 .bf16}
    (ha : ∀ p x, a (ix4 0 0 p x) = X (ix4 0 0 p x)) (hb : ∀ p x, b (ix4 0 0 p x) = X (ix4 1 0 p x))
    (hc : ∀ p x, c (ix4 0 0 p x) = X (ix4 2 0 p x)) (hd : ∀ p x, d (ix4 0 0 p x) = X (ix4 3 0 p x)) (n : Fin 8192) (x : Fin 128) :
    k0_pay26 (F := Ideal) a b c d (ix2 n x) = rows X n x := by
  pointwise [k0_pay26]
  exact joined X ha hb hc hd n x

theorem all_scores (X : FVec Ideal S4x1x2048x128 .fp8e4m3) {a b c d : FVec Ideal S1x1x2048x128 .fp8e4m3} {q : FVec Ideal S1x32x128 .bf16}
    (ha : ∀ p x, a (ix4 0 0 p x) = X (ix4 0 0 p x)) (hb : ∀ p x, b (ix4 0 0 p x) = X (ix4 1 0 p x))
    (hc : ∀ p x, c (ix4 0 0 p x) = X (ix4 2 0 p x)) (hd : ∀ p x, d (ix4 0 0 p x) = X (ix4 3 0 p x)) {Q : Fin 128 → EReal} (r : Fin 32)
    (hq : ∀ x, q (ix3 0 r x) = Q x) (j : Fin 8192) :
    k0_pay27 (F := Ideal) a b c d q (ix2 r j) = score Q (rows X j) := by
  pointwise [k0_pay27]
  unfold score
  congr 1
  exact Finset.sum_congr rfl fun x _ => congrArg₂ _ (hq x) (joined X ha hb hc hd j x)

theorem all_largest (a b c d : FVec Ideal S1x1x2048x128 .fp8e4m3) (q : FVec Ideal S1x32x128 .bf16) (r : Fin 32) (z : Fin 1) :
    k0_pay28 (F := Ideal) a b c d q (ix2 r z) = largest fun j => k0_pay27 (F := Ideal) a b c d q (ix2 r j) := by
  unfold k0_pay28
  generalize k0_pay27 (F := Ideal) a b c d q = s
  pointwise []
  rw [ofBits_neg_inf]

/-! ## The block -/

/-- A row the last store writes. -/
theorem store_here {σ : RefSig} (b : View σ .tc .vmem S1x2048x128 .bf16) (o n : ℕ) (inb : ∀ a, (![0, o, 0] : Fin 3 → ℕ) a + (![1, n, 128] : Fin 3 → ℕ) a ≤ S1x2048x128.size a)
    (w : (Rect.unit (s := S1x2048x128) ![0, o, 0] ![1, n, 128] inb).shape.Idx → EReal)
    (L : List (View.Piece (Elt Ideal) S1x2048x128 .bf16)) (r : Fin 2048) (d : Fin 128) (p : Fin n) (h : (r : ℕ) = o + p) :
    b.read (Elt Ideal) (b.writes (Elt Ideal) b.junk (⟨Rect.unit ![0, o, 0] ![1, n, 128] inb, w⟩ :: L)) (ix3 0 r d)
      = w (ix3 0 p d) := by
  refine View.read_writes_cons_unit_of_mem _ _ inb w L _ (ix3 0 p d) rfl fun a => ?_
  fin_cases a
  · rfl
  · exact h
  · exact (Nat.zero_add _).symm

/-- A row the last store leaves alone. -/
theorem store_other {σ : RefSig} (b : View σ .tc .vmem S1x2048x128 .bf16) (o n : ℕ) (inb : ∀ a, (![0, o, 0] : Fin 3 → ℕ) a + (![1, n, 128] : Fin 3 → ℕ) a ≤ S1x2048x128.size a)
    (w : (Rect.unit (s := S1x2048x128) ![0, o, 0] ![1, n, 128] inb).shape.Idx → EReal)
    (L : List (View.Piece (Elt Ideal) S1x2048x128 .bf16)) (r : Fin 2048) (d : Fin 128) (h : (r : ℕ) < o ∨ o + n ≤ r) :
    b.read (Elt Ideal) (b.writes (Elt Ideal) b.junk (⟨Rect.unit ![0, o, 0] ![1, n, 128] inb, w⟩ :: L)) (ix3 0 r d)
      = b.read (Elt Ideal) (b.writes (Elt Ideal) b.junk L) (ix3 0 r d) :=
  View.read_writes_cons_unit_of_not_mem _ _ inb w L _ rfl 1 h

variable (c : Dev nD) (i : grid0.Coords) (arg1 : Memref sig .tc .vmem S1x2048x128 .bf16) (harg1 : arg1.IsWhole)
  (arg2 : Memref sig .tc .vmem S4x1x2048x128 .fp8e4m3) (harg2 : arg2.IsWhole)
  (arg3 : Memref sig .tc .vmem S4x1x2048x128 .bf16) (harg3 : arg3.IsWhole)
  (arg4 : Memref sig .tc .vmem S1x2048x128 .bf16) (harg4 : arg4.IsWhole)
  (x0 : FVec Ideal S1x2048x128 .bf16) (x1 : FVec Ideal S4x1x2048x128 .fp8e4m3) (x2 : FVec Ideal S4x1x2048x128 .bf16)

/-- The block a grid point leaves, of finite queries and keys: every row is the average over all keys. -/
theorem block_apply (hq : ∀ r x, Finite (x0 (ix3 0 r x))) (hk : ∀ j x, Finite (rows x1 j x)) (r : Fin 2048) (d : Fin 128) :
    out0_A_3 (F := Ideal) c i arg1 harg1 arg2 harg2 arg3 harg3 arg4 harg4 x0 x1 x2 (ix3 0 r d)
      = average (scores (fun x => x0 (ix3 0 r x)) (rows x1) r) fun j => rows x2 j d := by
  have hK : Firsts (rows x1) (kernelRun0_A.sl.r c arg2 harg2 x1) :=
    firsts_keys x1 (fun p x => load_rows harg2 x1 0 2048 _ p x (by omega) (by omega))
      fun p x => load_rows harg2 x1 1 256 _ p x (by omega) (by omega)
  have hV : Firsts (rows x2) (kernelRun0_A.sl.r_1 c arg3 harg3 x2) :=
    firsts_values x2 (fun p x => load_rows harg3 x2 0 2048 _ p x (by omega) (by omega))
      fun p x => load_rows harg3 x2 1 256 _ p x (by omega) (by omega)
  have query : ∀ (o n : ℕ) (inb : ∀ a, (![0, o, 0] : Fin 3 → ℕ) a + (![1, n, 128] : Fin 3 → ℕ) a ≤ S1x2048x128.size a) (p : Fin n)
      (_ : (r : ℕ) = o + p) (x : Fin 128), View.readAt (Elt Ideal) arg1.view
        (Rect.unit (s := S1x2048x128) ![0, o, 0] ![1, n, 128] inb).toLoadRect (harg1.unread x0) (ix3 0 p x) = x0 (ix3 0 r x) :=
    fun o n inb p hp x => (load_queries harg1 x0 o n inb p x (by omega)).trans (congrArg (fun r => x0 (ix3 0 r x)) (Fin.ext hp.symm))
  unfold out0_A_3 kernelRun0_A
  dsimp only
  by_cases h0 : (r : ℕ) < 32
  · refine (store_here _ 0 32 _ _ _ r d ⟨r, h0⟩ (by simp)).trans ?_
    refine allKeys_apply ⟨r, h0⟩ (fun n x => ?_) (fun j => ?_) (all_largest _ _ _ _ _ _ _) 0 d
    · exact all_values x2 (fun p x => load_rows harg3 x2 0 2048 _ p x (by omega) (by omega))
        (fun p x => load_rows harg3 x2 1 2048 _ p x (by omega) (by omega))
        (fun p x => load_rows harg3 x2 2 2048 _ p x (by omega) (by omega))
        (fun p x => load_rows harg3 x2 3 2048 _ p x (by omega) (by omega)) n x
    · exact all_scores x1 (fun p x => load_rows harg2 x1 0 2048 _ p x (by omega) (by omega))
        (fun p x => load_rows harg2 x1 1 2048 _ p x (by omega) (by omega))
        (fun p x => load_rows harg2 x1 2 2048 _ p x (by omega) (by omega))
        (fun p x => load_rows harg2 x1 3 2048 _ p x (by omega) (by omega)) ⟨r, h0⟩
        (fun x => query 0 32 _ ⟨r, h0⟩ (by simp) x) j
  rw [store_other _ 0 32 _ _ _ r d (by omega)]
  by_cases h3 : 1536 ≤ (r : ℕ)
  · refine (store_here _ 1536 512 _ _ _ r d ⟨r - 1536, by omega⟩ (by simp; omega)).trans ?_
    refine (congrFun (tile3_eq (kernelRun0_A.sl.r c arg2 harg2 x1) _ _) _).trans ?_
    refine (bandTile_apply _ (by omega) (by omega) (by omega) hK hV _ (fun x => query 1536 512 _ _ (by simp; omega) x) (hq r) hk 0 d).trans ?_
    rw [show 1536 + (r - 1536 : ℕ) = r by omega]
  rw [store_other _ 1536 512 _ _ _ r d (by omega)]
  by_cases h2 : 1024 ≤ (r : ℕ)
  · refine (store_here _ 1024 512 _ _ _ r d ⟨r - 1024, by omega⟩ (by simp; omega)).trans ?_
    refine (congrFun (tile2_eq (kernelRun0_A.sl.r c arg2 harg2 x1) _ _) _).trans ?_
    refine (bandTile_apply _ (by omega) (by omega) (by omega) hK hV _ (fun x => query 1024 512 _ _ (by simp; omega) x) (hq r) hk 0 d).trans ?_
    rw [show 1024 + (r - 1024 : ℕ) = r by omega]
  rw [store_other _ 1024 512 _ _ _ r d (by omega)]
  by_cases h1 : 512 ≤ (r : ℕ)
  · refine (store_here _ 512 512 _ _ _ r d ⟨r - 512, by omega⟩ (by simp; omega)).trans ?_
    refine (congrFun (tile1_eq (kernelRun0_A.sl.r c arg2 harg2 x1) _ _) _).trans ?_
    refine (bandTile_apply _ (by omega) (by omega) (by omega) hK hV _ (fun x => query 512 512 _ _ (by simp; omega) x) (hq r) hk 0 d).trans ?_
    rw [show 512 + (r - 512 : ℕ) = r by omega]
  rw [store_other _ 512 512 _ _ _ r d (by omega)]
  refine (store_here _ 0 512 _ _ _ r d ⟨r, by omega⟩ (by simp)).trans ?_
  exact firstTile_apply hK hV ⟨r, by omega⟩ (by simp; omega) (fun x => query 0 512 _ _ (by simp) x) (hq r) hk 0 d

end Cert.Attn

end

end
-- ==== Proof.AttnRef.lean ====
module

public import proofs.«01_k».proof.Proof.Gen.AttentionReferenceIdeal.Run
public import proofs.«01_k».proof.Proof.AttnMath

/-!
# The reference's attention at an index

The reference gathers the four devices' rows by head, takes all scores of a head at once, masks them, and weighs the
values: at an index it is `average` over all 8192 keys.
-/

@[expose] public section

noncomputable section

namespace Cert.Attn

open Idealize.ShloMosaic Idealize.ShloMosaic.Pointwise
open Cert.AttentionReferenceIdeal Cert.AttentionReferenceIdeal.Gen

/-- The rows of a device's buffer gathered by head: head `h` at position `2048 s + p` is row `8 s + h` at `p`. -/
def byHead (a : FVec Ideal S32x2048x128 .f32) : FVec Ideal S8x8192x128 .f32 :=
  shapeCast _ (transpose S8x4x2048x128 [1, 0, 2, 3]
    (shapeCast _ a shapeCasts_S32x2048x128_S4x8x2048x128) transposes_S4x8x2048x128_S8x4x2048x128_1_0_2_3)
    shapeCasts_S8x4x2048x128_S8x8192x128

/-- The reference's mask. -/
def refKeep : IVec S2048x8192 1 :=
  ori (cmpi .sle (absi (subi
      (broadcastInDim S2048x8192 ![0, 1] bcast_S2048x1_S2048x8192_0_1
        (broadcastInDim S2048x1 ![0] bcast_S2048_S2048x1_0 (iotaInDim S2048 32 0)))
      (broadcastInDim S2048x8192 ![0, 1] bcast_S1x8192_S2048x8192_0_1
        (broadcastInDim S1x8192 ![1] bcast_S8192_S1x8192_1 (iotaInDim S8192 32 0)))))
      (broadcastInDim S2048x8192 ![] bcast_S_S2048x8192 (constantI S_ 32 128#32)))
    (ori (broadcastInDim S2048x8192 ![0, 1] bcast_S1x8192_S2048x8192_0_1 (cmpi .slt
        (broadcastInDim S1x8192 ![1] bcast_S8192_S1x8192_1 (iotaInDim S8192 32 0))
        (broadcastInDim S1x8192 ![] bcast_S_S1x8192 (constantI S_ 32 32#32))))
      (broadcastInDim S2048x8192 ![0, 1] bcast_S2048x1_S2048x8192_0_1 (cmpi .slt
        (broadcastInDim S2048x1 ![0] bcast_S2048_S2048x1_0 (iotaInDim S2048 32 0))
        (broadcastInDim S2048x1 ![] bcast_S_S2048x1 (constantI S_ 32 32#32)))))

/-- The reference's masked scores. -/
def refScores (q : FVec Ideal S8x2048x128 .bf16) (k : FVec Ideal S8x8192x128 .f32) : FVec Ideal S8x2048x8192 .f32 :=
  select (broadcastInDim S8x2048x8192 ![0, 1, 2] bcast_S1x2048x8192_S8x2048x8192_0_1_2
      (broadcastInDim S1x2048x8192 ![1, 2] bcast_S2048x8192_S1x2048x8192_1_2 refKeep))
    (mulf (Host.dotGeneral dot_S8x2048x128_S8x8192x128_S8x2048x8192_2_2_1_1_0_0 none (extf .f32 q bitsLt_bf16_f32) k)
      (broadcastInDim S8x2048x8192 ![] bcast_S_S8x2048x8192 (constant S_ .f32 0x3DB504F3#32)))
    (broadcastInDim S8x2048x8192 ![] bcast_S_S8x2048x8192 (id (constant S_ .f32 0xFF800000#32)))

/-- The exponentials of the scores less their row's largest. -/
def refExp (s : FVec Ideal S8x2048x8192 .f32) : FVec Ideal S8x2048x8192 .f32 :=
  Host.exp (subf s (broadcastInDim S8x2048x8192 ![0, 1, 2] bcast_S8x2048x1_S8x2048x8192_0_1_2
    (broadcastInDim S8x2048x1 ![0, 1] bcast_S8x2048_S8x2048x1_0_1
      (Host.reduce FloatOps.maximumf s (constant S_ .f32 0xFF800000#32) reducesTo_S8x2048x8192_S8x2048_d2 h_S_))))

/-- The values weighed. -/
def refOut (w : FVec Ideal S8x2048x8192 .f32) (v : FVec Ideal S8x8192x128 .f32) : FVec Ideal S8x2048x128 .bf16 :=
  truncf .bf16 (Host.dotGeneral dot_S8x2048x8192_S8x8192x128_S8x2048x128_2_1_1_2_0_0 none
    (Host.divf w (broadcastInDim S8x2048x8192 ![0, 1, 2] bcast_S8x2048x1_S8x2048x8192_0_1_2
      (broadcastInDim S8x2048x1 ![0, 1] bcast_S8x2048_S8x2048x1_0_1
        (Host.reduceAdd w (constant S_ .f32 0x00000000#32) reducesTo_S8x2048x8192_S8x2048_d2 h_S_)))) v) bitsLt_bf16_f32

/-- The reference's result, in these parts. -/
theorem res_eq (m : (ℓ : Loc nD τ sig) → Buf (Elt Ideal) ℓ) (c : Dev nD) :
   Value.res_out0 m c = refOut (refExp (refScores (m ((c.tc : Thread nD τ).loc main_arg0)) (byHead (m ((c.tc : Thread nD τ).loc main_arg1)))))
     (byHead (m ((c.tc : Thread nD τ).loc main_arg2))) := rfl

theorem byHead_apply (a : FVec Ideal S32x2048x128 .f32) (h : Fin 8) (p : Fin 8192) (d : Fin 128) :
    byHead a (ix3 h p d) = a (ix3 ⟨p / 2048 * 8 + h, by omega⟩ ⟨p % 2048, by omega⟩ d) := by
  pointwise [byHead]

theorem refKeep_apply (i : Fin 2048) (j : Fin 8192) : refKeep (ix2 i j) = BitVec.ofBool (decide (Sees i j)) := by
  pointwise [refKeep]
  rw [near_word (by omega) j.isLt, WordCmp.cmpi_slt_ofNat (by omega) (by norm_num), WordCmp.cmpi_slt_ofNat (by omega) (by norm_num),
    WordCmp.ori_ofBool, WordCmp.ori_ofBool]
  rw [← Bool.decide_or, ← Bool.decide_or]
  exact congrArg BitVec.ofBool (decide_eq_decide.2 Iff.rfl)

theorem refScores_apply (q : FVec Ideal S8x2048x128 .bf16) (k : FVec Ideal S8x8192x128 .f32) (h : Fin 8) (i : Fin 2048)
    (j : Fin 8192) :
    refScores q k (ix3 h i j) = scores (fun x => q (ix3 h i x)) (fun j x => k (ix3 h j x)) i j := by
  pointwise [refScores]
  rw [refKeep_apply, WordCmp.select_decide]
  unfold scores score
  congr 1

/-- The reference at an index. -/
theorem ref_apply (q : FVec Ideal S8x2048x128 .bf16) (k v : FVec Ideal S8x8192x128 .f32) (h : Fin 8) (i : Fin 2048)
    (d : Fin 128) :
    refOut (refExp (refScores q k)) v (ix3 h i d)
      = average (scores (fun x => q (ix3 h i x)) (fun j x => k (ix3 h j x)) i) (fun j => v (ix3 h j d)) := by
  have e : ∀ j, refExp (refScores q k) (ix3 h i j)
      = Ideal.exp (scores (fun x => q (ix3 h i x)) (fun j x => k (ix3 h j x)) i j
          - largest (scores (fun x => q (ix3 h i x)) (fun j x => k (ix3 h j x)) i)) := fun j => by
    pointwise [refExp]
    simp only [refScores_apply, ofBits_neg_inf]
  pointwise [refOut]
  simp only [e, average]

end Cert.Attn

end

end
-- ==== Proof.AttnArray.lean ====
module

public import proofs.«01_k».proof.Proof.AttnLoads
public import proofs.«01_k».proof.Proof.AttnRef
public import Idealize.ShloMosaic.Lib.Pipeline.ValueKit

/-!
# The attention call's result array

Grid point `h` reads head `h`'s queries and, of each device's part of the keys and values, row `h`; it writes head `h` of
the result. So the result array is the reference's.
-/

@[expose] public section

noncomputable section

namespace Cert.Attn

open Idealize.ShloMosaic Idealize.ShloMosaic.Pointwise Idealize.ShloMosaic.TcCoe
open Cert.AttentionIdeal Cert.AttentionIdeal.Gen

variable (m : (ℓ : Loc nD τ sig) → Buf (Elt Ideal) ℓ) (c : Dev nD)

/-- The queries, keys and values as launched. -/
abbrev argQ : FVec Ideal S8x2048x128 .bf16 := m ((c : Thread nD τ).loc main_arg0)
abbrev argK : FVec Ideal S32x2048x128 .f32 := m ((c : Thread nD τ).loc main_arg1)
abbrev argV : FVec Ideal S32x2048x128 .f32 := m ((c : Thread nD τ).loc main_arg2)

/-! ## The arrays the call finds -/

theorem keys_entry : V m c main_v2
    = shapeCast S4x8x2048x128 (Host.convertf (F := Ideal) (φ := .f32) .fp8e4m3 (argK m c)) shapeCasts_S32x2048x128_S4x8x2048x128 := rfl

theorem values_entry : V m c main_v3
    = shapeCast S4x8x2048x128 (truncf (F := Ideal) (φ := .f32) .bf16 (argV m c) bitsLt_bf16_f32) shapeCasts_S32x2048x128_S4x8x2048x128 :=
  rfl

theorem keys_entry_apply (s : Fin 4) (h : Fin 8) (p : Fin 2048) (x : Fin 128) :
    V m c main_v2 (ix4 s h p x) = argK m c (ix3 ⟨s * 8 + h, by omega⟩ p x) := by
  rw [keys_entry]
  generalize argK m c = a
  pointwise []

theorem values_entry_apply (s : Fin 4) (h : Fin 8) (p : Fin 2048) (x : Fin 128) :
    V m c main_v3 (ix4 s h p x) = argV m c (ix3 ⟨s * 8 + h, by omega⟩ p x) := by
  rw [values_entry]
  generalize argV m c = a
  pointwise []

/-! ## The blocks of grid point `t` -/

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![0, t.val, 0, 0] :=
  (by decide +kernel : ∀ t : Fin grid0.N, win0_1.index t = ![0, t.val, 0, 0])
theorem index2 : ∀ t : Fin cfg0.N, win0_2.index t = ![0, t.val, 0, 0] :=
  (by decide +kernel : ∀ t : Fin grid0.N, win0_2.index t = ![0, t.val, 0, 0])
theorem index3 : ∀ t : Fin cfg0.N, win0_3.index t = ![t.val, 0, 0] :=
  (by decide +kernel : ∀ t : Fin grid0.N, win0_3.index t = ![t.val, 0, 0])

/-- The head a grid point takes. -/
def head (t : Fin cfg0.N) : Fin 8 := ⟨t.val, lt_of_lt_of_eq t.isLt (by decide +kernel : grid0.N = 8)⟩

theorem emb0 (t : Fin cfg0.N) (r : Fin 2048) (x : Fin 128) : (win0_0.blk t).view.emb (ix3 0 r x) = ix3 (head t) r x := by
  funext a; refine Fin.ext ?_
  match a with
  | ⟨0, _⟩ => show win0_0.index t (0 : Fin 3) * 1 + 1 * 0 = t.val; rw [index0]; simp
  | ⟨1, _⟩ => show win0_0.index t (1 : Fin 3) * 2048 + 1 * r.val = r.val; rw [index0]; simp
  | ⟨2, _⟩ => show win0_0.index t (2 : Fin 3) * 128 + 1 * x.val = x.val; rw [index0]; simp

theorem emb3 (t : Fin cfg0.N) (r : Fin 2048) (x : Fin 128) : (win0_3.blk t).view.emb (ix3 0 r x) = ix3 (head t) r x := by
  funext a; refine Fin.ext ?_
  match a with
  | ⟨0, _⟩ => show win0_3.index t (0 : Fin 3) * 1 + 1 * 0 = t.val; rw [index3]; simp
  | ⟨1, _⟩ => show win0_3.index t (1 : Fin 3) * 2048 + 1 * r.val = r.val; rw [index3]; simp
  | ⟨2, _⟩ => show win0_3.index t (2 : Fin 3) * 128 + 1 * x.val = x.val; rw [index3]; simp

theorem emb1 (t : Fin cfg0.N) (s : Fin 4) (p : Fin 2048) (x : Fin 128) :
    (win0_1.blk t).view.emb (ix4 s 0 p x) = ix4 s (head t) p x := by
  funext a; refine Fin.ext ?_
  match a with
  | ⟨0, _⟩ => show win0_1.index t (0 : Fin 4) * 4 + 1 * s.val = s.val; rw [index1]; simp
  | ⟨1, _⟩ => show win0_1.index t (1 : Fin 4) * 1 + 1 * 0 = t.val; rw [index1]; simp
  | ⟨2, _⟩ => show win0_1.index t (2 : Fin 4) * 2048 + 1 * p.val = p.val; rw [index1]; simp
  | ⟨3, _⟩ => show win0_1.index t (3 : Fin 4) * 128 + 1 * x.val = x.val; rw [index1]; simp

theorem emb2 (t : Fin cfg0.N) (s : Fin 4) (p : Fin 2048) (x : Fin 128) :
    (win0_2.blk t).view.emb (ix4 s 0 p x) = ix4 s (head t) p x := by
  funext a; refine Fin.ext ?_
  match a with
  | ⟨0, _⟩ => show win0_2.index t (0 : Fin 4) * 4 + 1 * s.val = s.val; rw [index2]; simp
  | ⟨1, _⟩ => show win0_2.index t (1 : Fin 4) * 1 + 1 * 0 = t.val; rw [index2]; simp
  | ⟨2, _⟩ => show win0_2.index t (2 : Fin 4) * 2048 + 1 * p.val = p.val; rw [index2]; simp
  | ⟨3, _⟩ => show win0_2.index t (3 : Fin 4) * 128 + 1 * x.val = x.val; rw [index2]; simp

theorem block_queries (t : Fin cfg0.N) (r : Fin 2048) (x : Fin 128) :
    iblk m c 0 t (ix3 0 r x) = argQ m c (ix3 (head t) r x) := by
  show V m c main_arg0 ((win0_0.blk t).view.emb (ix3 0 r x)) = _
  rw [emb0, V_main_arg0]

theorem block_keys (t : Fin cfg0.N) (j : Fin 8192) (x : Fin 128) :
    rows (iblk m c 1 t) j x = byHead (argK m c) (ix3 (head t) j x) := by
  show V m c main_v2 ((win0_1.blk t).view.emb (ix4 _ 0 _ x)) = _
  rw [emb1, keys_entry_apply, byHead_apply]

theorem block_values (t : Fin cfg0.N) (j : Fin 8192) (x : Fin 128) :
    rows (iblk m c 2 t) j x = byHead (argV m c) (ix3 (head t) j x) := by
  show V m c main_v3 ((win0_2.blk t).view.emb (ix4 _ 0 _ x)) = _
  rw [emb2, values_entry_apply, byHead_apply]

/-! ## The array -/

/-- Of finite queries and keys, the result array is the reference's result. -/
theorem array_eq (hq : ∀ h i x, Finite (argQ m c (ix3 h i x))) (hk : ∀ s p x, Finite (argK m c (ix3 s p x))) :
    (dats m 0 c).arrAt 3 cfg0.N = refOut (refExp (refScores (argQ m c) (byHead (argK m c)))) (byHead (argV m c)) := by
  refine (dats m 0 c).arrAt_eq_of_covers 3 _ (by decide +kernel) fun t _ y => ?_
  blk_simp
  rw [after0_3]
  obtain ⟨z, r, d, rfl⟩ : ∃ (z : Fin 1) (r : Fin 2048) (d : Fin 128), y = ix3 z r d := ⟨y 0, y 1, y 2, by
    funext a; match a with | ⟨0, _⟩ => rfl | ⟨1, _⟩ => rfl | ⟨2, _⟩ => rfl⟩
  obtain rfl : z = 0 := Subsingleton.elim _ _
  rw [emb3, ref_apply]
  refine (block_apply c _ _ _ _ _ _ _ _ _ (iblk m c 0 t) (iblk m c 1 t) (iblk m c 2 t)
    (fun r x => ?_) (fun j x => ?_) r d).trans ?_
  · rw [block_queries]; exact hq _ _ _
  · rw [block_keys, byHead_apply]; exact hk _ _ _
  · rw [show rows (iblk m c 1 t) = fun j x => byHead (argK m c) (ix3 (head t) j x) from funext₂ (block_keys m c t)]
    simp only [block_queries, block_values]

end Cert.Attn

end

end
-- ==== Proof.AttnPre.lean ====
module

public import proofs.«01_k».proof.Proof.Gen.Pre_finite_queries_and_keys
public import proofs.«01_k».proof.Proof.AttnMath

/-!
# The precondition at an index

The precondition is the conjunction over all entries of the queries and keys that the absolute value is below infinity.
-/

@[expose] public section

noncomputable section

namespace Cert.Attn

open Idealize.ShloMosaic Idealize.ShloMosaic.Pointwise
open Cert.Pre_finite_queries_and_keys Cert.Pre_finite_queries_and_keys.Gen

/-- An absolute value below infinity is a finite value's. -/
theorem finite_of_abs {x : EReal} (h : max x (-x) < ⊤) : Finite x := by
  induction x with
  | bot => exact absurd h (by simp)
  | top => exact absurd h (by simp)
  | coe r => exact ⟨r, rfl⟩

/-- A conjunction of two bits is one where both are. -/
theorem and_bits (a b : BitVec 1) : IntOp.andi a b = 1#1 → a = 1#1 ∧ b = 1#1 := by
  revert a b; decide

/-- A conjunction of bits is one where every bit is. -/
theorem of_fold_and {ι : Type} [Fintype ι] (f : ι → BitVec 1) (h : Finset.univ.fold IntOp.andi 1#1 f = 1#1) (j : ι) : f j = 1#1 := by
  classical
  have key : ∀ t : Finset ι, t.fold IntOp.andi 1#1 f = 1#1 → ∀ j ∈ t, f j = 1#1 := by
    intro t
    induction t using Finset.induction_on with
    | empty => exact fun _ j hj => absurd hj (Finset.notMem_empty j)
    | insert a t ha ih =>
      intro h j hj
      rw [Finset.fold_insert ha] at h
      rcases Finset.mem_insert.1 hj with rfl | hj
      · exact (and_bits _ _ h).1
      · exact ih (and_bits _ _ h).2 j hj
  exact key _ h j (Finset.mem_univ j)

/-- A bit of an absolute value's comparison with infinity. -/
theorem finite_of_bit {x : EReal}
    (h : BitVec.ofBool (decide (FloatOps.absf (F := Ideal) (φ := .f32) x < Ideal.ofBits .f32 0x7F800000#32)) = 1#1) : Finite x := by
  rw [WordCmp.ofBool_decide_eq_one_iff, ofBits_inf] at h
  exact finite_of_abs h

/-- Under the precondition every query and key entry is finite. -/
theorem finite_of_pre (q : FVec Ideal S8x2048x128 .bf16) (k v : FVec Ideal S32x2048x128 .f32)
    (h : Cert.Pre_finite_queries_and_keys.fn (F := Ideal) q k v = fun _ => 1#1) :
    (∀ h i x, Finite (q (ix3 h i x))) ∧ ∀ s p x, Finite (k (ix3 s p x)) := by
  have h0 := congrFun h ix0
  revert h0
  pointwise [Cert.Pre_finite_queries_and_keys.fn]
  intro h0
  obtain ⟨h1, h2⟩ := and_bits _ _ h0
  exact ⟨fun h i x => finite_of_bit (of_fold_and _ h1 (h, i, x)), fun s p x => finite_of_bit (of_fold_and _ h2 (s, p, x))⟩

end Cert.Attn

end

end
-- ==== Proof.PartBlock.lean ====
module

public import proofs.«01_k».proof.Proof.Gen.DeviceIdeal.Frame
public import proofs.«01_k».proof.Proof.AttnLoads

/-!
# What a grid point of the whole device program leaves in its block

The attention call has the text that it has alone, but the buffers are another program's.
-/

@[expose] public section

noncomputable section

namespace Cert.Part

open Idealize.ShloMosaic Idealize.ShloMosaic.Pointwise
open Cert.Attn Cert.DeviceIdeal Cert.DeviceIdeal.Gen

variable (c : Dev nD) (i : grid0.Coords) (arg1 : Memref sig .tc .vmem S1x2048x128 .bf16) (harg1 : arg1.IsWhole)
  (arg2 : Memref sig .tc .vmem S4x1x2048x128 .fp8e4m3) (harg2 : arg2.IsWhole)
  (arg3 : Memref sig .tc .vmem S4x1x2048x128 .bf16) (harg3 : arg3.IsWhole)
  (arg4 : Memref sig .tc .vmem S1x2048x128 .bf16) (harg4 : arg4.IsWhole)
  (x0 : FVec Ideal S1x2048x128 .bf16) (x1 : FVec Ideal S4x1x2048x128 .fp8e4m3) (x2 : FVec Ideal S4x1x2048x128 .bf16)

/-- The block a grid point leaves, of finite queries and keys: every row is the average over all keys. -/
theorem block_apply (hq : ∀ r x, Finite (x0 (ix3 0 r x))) (hk : ∀ j x, Finite (rows x1 j x)) (r : Fin 2048) (d : Fin 128) :
    out0_A_3 (F := Ideal) c i arg1 harg1 arg2 harg2 arg3 harg3 arg4 harg4 x0 x1 x2 (ix3 0 r d)
      = average (scores (fun x => x0 (ix3 0 r x)) (rows x1) r) fun j => rows x2 j d := by
  have hK : Firsts (rows x1) (kernelRun0_A.sl.r c arg2 harg2 x1) :=
    firsts_keys x1 (fun p x => load_rows harg2 x1 0 2048 _ p x (by omega) (by omega))
      fun p x => load_rows harg2 x1 1 256 _ p x (by omega) (by omega)
  have hV : Firsts (rows x2) (kernelRun0_A.sl.r_1 c arg3 harg3 x2) :=
    firsts_values x2 (fun p x => load_rows harg3 x2 0 2048 _ p x (by omega) (by omega))
      fun p x => load_rows harg3 x2 1 256 _ p x (by omega) (by omega)
  have query : ∀ (o n : ℕ) (inb : ∀ a, (![0, o, 0] : Fin 3 → ℕ) a + (![1, n, 128] : Fin 3 → ℕ) a ≤ S1x2048x128.size a) (p : Fin n)
      (_ : (r : ℕ) = o + p) (x : Fin 128), View.readAt (Elt Ideal) arg1.view
        (Rect.unit (s := S1x2048x128) ![0, o, 0] ![1, n, 128] inb).toLoadRect (harg1.unread x0) (ix3 0 p x) = x0 (ix3 0 r x) :=
    fun o n inb p hp x => (load_queries harg1 x0 o n inb p x (by omega)).trans (congrArg (fun r => x0 (ix3 0 r x)) (Fin.ext hp.symm))
  unfold out0_A_3 kernelRun0_A
  dsimp only
  by_cases h0 : (r : ℕ) < 32
  · refine (store_here _ 0 32 _ _ _ r d ⟨r, h0⟩ (by simp)).trans ?_
    refine allKeys_apply ⟨r, h0⟩ (fun n x => ?_) (fun j => ?_) (all_largest _ _ _ _ _ _ _) 0 d
    · exact all_values x2 (fun p x => load_rows harg3 x2 0 2048 _ p x (by omega) (by omega))
        (fun p x => load_rows harg3 x2 1 2048 _ p x (by omega) (by omega))
        (fun p x => load_rows harg3 x2 2 2048 _ p x (by omega) (by omega))
        (fun p x => load_rows harg3 x2 3 2048 _ p x (by omega) (by omega)) n x
    · exact all_scores x1 (fun p x => load_rows harg2 x1 0 2048 _ p x (by omega) (by omega))
        (fun p x => load_rows harg2 x1 1 2048 _ p x (by omega) (by omega))
        (fun p x => load_rows harg2 x1 2 2048 _ p x (by omega) (by omega))
        (fun p x => load_rows harg2 x1 3 2048 _ p x (by omega) (by omega)) ⟨r, h0⟩
        (fun x => query 0 32 _ ⟨r, h0⟩ (by simp) x) j
  rw [store_other _ 0 32 _ _ _ r d (by omega)]
  by_cases h3 : 1536 ≤ (r : ℕ)
  · refine (store_here _ 1536 512 _ _ _ r d ⟨r - 1536, by omega⟩ (by simp; omega)).trans ?_
    refine (congrFun (tile3_eq (kernelRun0_A.sl.r c arg2 harg2 x1) _ _) _).trans ?_
    refine (bandTile_apply _ (by omega) (by omega) (by omega) hK hV _ (fun x => query 1536 512 _ _ (by simp; omega) x) (hq r) hk 0 d).trans ?_
    rw [show 1536 + (r - 1536 : ℕ) = r by omega]
  rw [store_other _ 1536 512 _ _ _ r d (by omega)]
  by_cases h2 : 1024 ≤ (r : ℕ)
  · refine (store_here _ 1024 512 _ _ _ r d ⟨r - 1024, by omega⟩ (by simp; omega)).trans ?_
    refine (congrFun (tile2_eq (kernelRun0_A.sl.r c arg2 harg2 x1) _ _) _).trans ?_
    refine (bandTile_apply _ (by omega) (by omega) (by omega) hK hV _ (fun x => query 1024 512 _ _ (by simp; omega) x) (hq r) hk 0 d).trans ?_
    rw [show 1024 + (r - 1024 : ℕ) = r by omega]
  rw [store_other _ 1024 512 _ _ _ r d (by omega)]
  by_cases h1 : 512 ≤ (r : ℕ)
  · refine (store_here _ 512 512 _ _ _ r d ⟨r - 512, by omega⟩ (by simp; omega)).trans ?_
    refine (congrFun (tile1_eq (kernelRun0_A.sl.r c arg2 harg2 x1) _ _) _).trans ?_
    refine (bandTile_apply _ (by omega) (by omega) (by omega) hK hV _ (fun x => query 512 512 _ _ (by simp; omega) x) (hq r) hk 0 d).trans ?_
    rw [show 512 + (r - 512 : ℕ) = r by omega]
  rw [store_other _ 512 512 _ _ _ r d (by omega)]
  refine (store_here _ 0 512 _ _ _ r d ⟨r, by omega⟩ (by simp)).trans ?_
  exact firstTile_apply hK hV ⟨r, by omega⟩ (by simp; omega) (fun x => query 0 512 _ _ (by simp) x) (hq r) hk 0 d

end Cert.Part

end

end
-- ==== Proof.PartArray.lean ====
module

public import proofs.«01_k».proof.Proof.PartBlock
public import proofs.«01_k».proof.Proof.AttnRef
public import Idealize.ShloMosaic.Lib.Pipeline.ValueKit

/-!
# One device's summand of the result

The host computes the queries of the device's eight heads, the call computes their attention, and the host multiplies the
contexts by the rows of the output weights that belong to these heads.
-/

@[expose] public section

noncomputable section

namespace Cert.Part

open Idealize.ShloMosaic Idealize.ShloMosaic.Pointwise Idealize.ShloMosaic.TcCoe Idealize.SL.Sem
open Cert.Attn Cert.DeviceIdeal Cert.DeviceIdeal.Gen

/-- The queries of the eight heads: the input times the weights, by head. -/
def queries (x : FVec Ideal S1x2048x1024 .bf16) (w : FVec Ideal S1024x1024 .bf16) : FVec Ideal S8x2048x128 .bf16 :=
  transpose S8x2048x128 [1, 0, 2] (shapeCast S2048x8x128 (truncf (F := Ideal) (φ := .f32) .bf16
    (Host.dotGeneral (F := Ideal) dot_S2048x1024_S1024x1024_S2048x1024_1_0_0_1_n_n none
      (shapeCast S2048x1024 x shapeCasts_S1x2048x1024_S2048x1024) w) bitsLt_bf16_f32)
    shapeCasts_S2048x1024_S2048x8x128) transposes_S2048x8x128_S8x2048x128_1_0_2

/-- The contexts, side by side, times the output weights. -/
def summand (a : FVec Ideal S8x2048x128 .bf16) (w : FVec Ideal S1024x1024 .bf16) : FVec Ideal S2048x1024 .bf16 :=
  truncf (F := Ideal) (φ := .f32) .bf16 (Host.dotGeneral (F := Ideal) dot_S2048x1024_S1024x1024_S2048x1024_1_0_0_1_n_n none
    (shapeCast S2048x1024 (transpose S2048x8x128 [1, 0, 2] a transposes_S8x2048x128_S2048x8x128_1_0_2)
      shapeCasts_S2048x8x128_S2048x1024) w) bitsLt_bf16_f32

theorem queries_apply (x : FVec Ideal S1x2048x1024 .bf16) (w : FVec Ideal S1024x1024 .bf16) (h : Fin 8) (i : Fin 2048) (d : Fin 128) :
    queries x w (ix3 h i d) = ∑ k : Fin 1024, x (ix3 0 i k) * w (ix2 k ⟨h * 128 + d, by omega⟩) := by
  pointwise [queries]

/-- Of a finite input and finite weights the queries are finite. -/
theorem queries_finite {x : FVec Ideal S1x2048x1024 .bf16} {w : FVec Ideal S1024x1024 .bf16} (hx : ∀ i k, Finite (x (ix3 0 i k)))
    (hw : ∀ k n, Finite (w (ix2 k n))) (h : Fin 8) (i : Fin 2048) (d : Fin 128) : Finite (queries x w (ix3 h i d)) := by
  rw [queries_apply]
  exact finite_sum fun k => (hx i k).mul (hw k _)

variable (m : (ℓ : Loc nD τ sig) → Buf (Elt Ideal) ℓ) (c : Dev nD)

/-- The arguments as launched: the input, the queries' weights, the keys, the values and the output weights. -/
abbrev argX : FVec Ideal S1x2048x1024 .bf16 := m ((c : Thread nD τ).loc main_arg0)
abbrev argWq : FVec Ideal S1024x1024 .bf16 := m ((c : Thread nD τ).loc main_arg1)
abbrev argK : FVec Ideal S32x2048x128 .f32 := m ((c : Thread nD τ).loc main_arg2)
abbrev argV : FVec Ideal S32x2048x128 .f32 := m ((c : Thread nD τ).loc main_arg3)
abbrev argWo : FVec Ideal S1024x1024 .bf16 := m ((c : Thread nD τ).loc main_arg4)

/-! ## The arrays the call finds -/

theorem queries_entry : V m c main_v4 = queries (argX m c) (argWq m c) := rfl

theorem keys_entry : V m c main_v7
    = shapeCast S4x8x2048x128 (Host.convertf (F := Ideal) (φ := .f32) .fp8e4m3 (argK m c)) shapeCasts_S32x2048x128_S4x8x2048x128 := rfl

theorem values_entry : V m c main_v8
    = shapeCast S4x8x2048x128 (truncf (F := Ideal) (φ := .f32) .bf16 (argV m c) bitsLt_bf16_f32) shapeCasts_S32x2048x128_S4x8x2048x128 :=
  rfl

theorem keys_entry_apply (s : Fin 4) (h : Fin 8) (p : Fin 2048) (x : Fin 128) :
    V m c main_v7 (ix4 s h p x) = argK m c (ix3 ⟨s * 8 + h, by omega⟩ p x) := by
  rw [keys_entry]
  generalize argK m c = a
  pointwise []

theorem values_entry_apply (s : Fin 4) (h : Fin 8) (p : Fin 2048) (x : Fin 128) :
    V m c main_v8 (ix4 s h p x) = argV m c (ix3 ⟨s * 8 + h, by omega⟩ p x) := by
  rw [values_entry]
  generalize argV m c = a
  pointwise []

/-! ## The blocks of grid point `t` -/

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![0, t.val, 0, 0] :=
  (by decide +kernel : ∀ t : Fin grid0.N, win0_1.index t = ![0, t.val, 0, 0])
theorem index2 : ∀ t : Fin cfg0.N, win0_2.index t = ![0, t.val, 0, 0] :=
  (by decide +kernel : ∀ t : Fin grid0.N, win0_2.index t = ![0, t.val, 0, 0])
theorem index3 : ∀ t : Fin cfg0.N, win0_3.index t = ![t.val, 0, 0] :=
  (by decide +kernel : ∀ t : Fin grid0.N, win0_3.index t = ![t.val, 0, 0])

/-- The head a grid point takes. -/
def head (t : Fin cfg0.N) : Fin 8 := ⟨t.val, lt_of_lt_of_eq t.isLt (by decide +kernel : grid0.N = 8)⟩

theorem emb0 (t : Fin cfg0.N) (r : Fin 2048) (x : Fin 128) : (win0_0.blk t).view.emb (ix3 0 r x) = ix3 (head t) r x := by
  funext a; refine Fin.ext ?_
  match a with
  | ⟨0, _⟩ => show win0_0.index t (0 : Fin 3) * 1 + 1 * 0 = t.val; rw [index0]; simp
  | ⟨1, _⟩ => show win0_0.index t (1 : Fin 3) * 2048 + 1 * r.val = r.val; rw [index0]; simp
  | ⟨2, _⟩ => show win0_0.index t (2 : Fin 3) * 128 + 1 * x.val = x.val; rw [index0]; simp

theorem emb3 (t : Fin cfg0.N) (r : Fin 2048) (x : Fin 128) : (win0_3.blk t).view.emb (ix3 0 r x) = ix3 (head t) r x := by
  funext a; refine Fin.ext ?_
  match a with
  | ⟨0, _⟩ => show win0_3.index t (0 : Fin 3) * 1 + 1 * 0 = t.val; rw [index3]; simp
  | ⟨1, _⟩ => show win0_3.index t (1 : Fin 3) * 2048 + 1 * r.val = r.val; rw [index3]; simp
  | ⟨2, _⟩ => show win0_3.index t (2 : Fin 3) * 128 + 1 * x.val = x.val; rw [index3]; simp

theorem emb1 (t : Fin cfg0.N) (s : Fin 4) (p : Fin 2048) (x : Fin 128) :
    (win0_1.blk t).view.emb (ix4 s 0 p x) = ix4 s (head t) p x := by
  funext a; refine Fin.ext ?_
  match a with
  | ⟨0, _⟩ => show win0_1.index t (0 : Fin 4) * 4 + 1 * s.val = s.val; rw [index1]; simp
  | ⟨1, _⟩ => show win0_1.index t (1 : Fin 4) * 1 + 1 * 0 = t.val; rw [index1]; simp
  | ⟨2, _⟩ => show win0_1.index t (2 : Fin 4) * 2048 + 1 * p.val = p.val; rw [index1]; simp
  | ⟨3, _⟩ => show win0_1.index t (3 : Fin 4) * 128 + 1 * x.val = x.val; rw [index1]; simp

theorem emb2 (t : Fin cfg0.N) (s : Fin 4) (p : Fin 2048) (x : Fin 128) :
    (win0_2.blk t).view.emb (ix4 s 0 p x) = ix4 s (head t) p x := by
  funext a; refine Fin.ext ?_
  match a with
  | ⟨0, _⟩ => show win0_2.index t (0 : Fin 4) * 4 + 1 * s.val = s.val; rw [index2]; simp
  | ⟨1, _⟩ => show win0_2.index t (1 : Fin 4) * 1 + 1 * 0 = t.val; rw [index2]; simp
  | ⟨2, _⟩ => show win0_2.index t (2 : Fin 4) * 2048 + 1 * p.val = p.val; rw [index2]; simp
  | ⟨3, _⟩ => show win0_2.index t (3 : Fin 4) * 128 + 1 * x.val = x.val; rw [index2]; simp

theorem block_queries (t : Fin cfg0.N) (r : Fin 2048) (x : Fin 128) :
    iblk m c 0 t (ix3 0 r x) = queries (argX m c) (argWq m c) (ix3 (head t) r x) := by
  show V m c main_v4 ((win0_0.blk t).view.emb (ix3 0 r x)) = _
  rw [emb0, queries_entry]

theorem block_keys (t : Fin cfg0.N) (j : Fin 8192) (x : Fin 128) :
    rows (iblk m c 1 t) j x = byHead (argK m c) (ix3 (head t) j x) := by
  show V m c main_v7 ((win0_1.blk t).view.emb (ix4 _ 0 _ x)) = _
  rw [emb1, keys_entry_apply, byHead_apply]

theorem block_values (t : Fin cfg0.N) (j : Fin 8192) (x : Fin 128) :
    rows (iblk m c 2 t) j x = byHead (argV m c) (ix3 (head t) j x) := by
  show V m c main_v8 ((win0_2.blk t).view.emb (ix4 _ 0 _ x)) = _
  rw [emb2, values_entry_apply, byHead_apply]

/-! ## The call's array and the result -/

/-- The attention of the eight heads, in the reference's parts. -/
abbrev context (x : FVec Ideal S1x2048x1024 .bf16) (w : FVec Ideal S1024x1024 .bf16) (k v : FVec Ideal S32x2048x128 .f32) :
    FVec Ideal S8x2048x128 .bf16 :=
  refOut (refExp (refScores (queries x w) (byHead k))) (byHead v)

/-- Of a finite input, finite weights and finite keys, the call's array is the reference's attention. -/
theorem array_eq (hx : ∀ i k, Finite (argX m c (ix3 0 i k))) (hw : ∀ k n, Finite (argWq m c (ix2 k n)))
    (hk : ∀ s p x, Finite (argK m c (ix3 s p x))) :
    (dats m 0 c).arrAt 3 cfg0.N = context (argX m c) (argWq m c) (argK m c) (argV m c) := by
  refine (dats m 0 c).arrAt_eq_of_covers 3 _ (by decide +kernel) fun t _ y => ?_
  blk_simp
  rw [after0_3]
  obtain ⟨z, r, d, rfl⟩ : ∃ (z : Fin 1) (r : Fin 2048) (d : Fin 128), y = ix3 z r d := ⟨y 0, y 1, y 2, by
    funext a; match a with | ⟨0, _⟩ => rfl | ⟨1, _⟩ => rfl | ⟨2, _⟩ => rfl⟩
  obtain rfl : z = 0 := Subsingleton.elim _ _
  rw [emb3]
  refine Eq.trans ?_ (ref_apply _ _ _ _ _ _).symm
  refine (block_apply c _ _ _ _ _ _ _ _ _ (iblk m c 0 t) (iblk m c 1 t) (iblk m c 2 t)
    (fun r x => ?_) (fun j x => ?_) r d).trans ?_
  · rw [block_queries]; exact queries_finite hx hw _ _ _
  · rw [block_keys, byHead_apply]; exact hk _ _ _
  · rw [show rows (iblk m c 1 t) = fun j x => byHead (argK m c) (ix3 (head t) j x) from funext₂ (block_keys m c t)]
    simp only [block_queries, block_values]

/-- What the lines after the call leave in the result: the product of the call's array and the output weights. -/
theorem tail_eq : Pipeline.afterTail₀ cfgs (dats m) 0 (V0 m) [hostOps1] c main_v13
    = summand ((dats m 0 c).arrAt 3 cfg0.N) (argWo m c) := by
  have hv := Pipeline.withArrays_arr spec0 (by decide) c (V0 m c) (fun w => (dats m 0 c).arrAt w cfg0.N) 3
  have ho := (Pipeline.withArrays_of_ne spec0 c (V0 m c) (fun w => (dats m 0 c).arrAt w cfg0.N) main_arg4
    (by exact (by decide : ∀ w, Pipeline.arrRef spec0 w ≠ main_arg4))).trans (V_main_arg4 m c)
  unfold Pipeline.afterTail₀
  simp only [hostOps1, List.flatten_cons, List.flatten_nil, List.append_nil]
  after_results_simp
  exact congrArg₂ summand hv ho

/-- The program's run: the result is that product, and the arguments are kept. -/
theorem run (ρ : Dev nD → PrngReg) : θ_run defs (onTc (τ := τ) (main (F := Ideal))) ⟨m, fun _ => 0, ρ⟩ fun r => ∀ c : Dev nD,
      r.2.mem ((c : Thread nD τ).loc main_v13) = summand ((dats m 0 c).arrAt 3 cfg0.N) (argWo m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).2 main_v13 (Pipeline.mem_restRefs_of main_v13 (by decide) (by decide))).trans
      (tail_eq m c), h.2 c⟩)
    (θ_run_and (run_main m ρ) (unchanged m ρ))

end Cert.Part

end

end
-- ==== Proof.PartRef.lean ====
module

public import proofs.«01_k».proof.Proof.PartArray
public import proofs.«01_k».proof.Proof.AttnPre
public import proofs.«01_k».proof.Proof.Gen.Pre_finite_inputs_and_keys
public import proofs.«01_k».proof.Proof.Gen.DeviceReferenceIdeal.Run

/-!
# The reference's summand, and its precondition at an index

The reference of one device's summand is the same two products around the same attention, with its changes of format at
other places.
-/

@[expose] public section

noncomputable section

namespace Cert.Part

open Idealize.ShloMosaic Idealize.ShloMosaic.Pointwise Idealize.ShloMosaic.TcCoe
open Cert.Attn Cert.DeviceReferenceIdeal

/-- The reference's result is the product of its attention and the output weights. -/
theorem res_eq (m : (ℓ : Loc nD τ sig) → Buf (Elt Ideal) ℓ) (c : Dev nD) :
    Cert.DeviceReferenceIdeal.Value.res_out0 (F := Ideal) m c
      = summand (context (m ((c : Thread nD τ).loc main_arg0)) (m ((c : Thread nD τ).loc main_arg1))
          (m ((c : Thread nD τ).loc main_arg2)) (m ((c : Thread nD τ).loc main_arg3))) (m ((c : Thread nD τ).loc main_arg4)) := rfl

/-- Under the precondition every entry of the input, of the queries' weights and of the keys is finite. -/
theorem finite_of_pre (x : FVec Ideal S1x2048x1024 .bf16) (wq : FVec Ideal S1024x1024 .bf16) (k v : FVec Ideal S32x2048x128 .f32)
    (wo : FVec Ideal S1024x1024 .bf16) (h : Cert.Pre_finite_inputs_and_keys.fn (F := Ideal) x wq k v wo = fun _ => 1#1) :
    (∀ i n, Finite (x (ix3 0 i n))) ∧ (∀ n d, Finite (wq (ix2 n d))) ∧ ∀ s p d, Finite (k (ix3 s p d)) := by
  have h0 := congrFun h ix0
  revert h0
  pointwise [Cert.Pre_finite_inputs_and_keys.fn]
  intro h0
  obtain ⟨h12, h3⟩ := and_bits _ _ h0
  obtain ⟨h1, h2⟩ := and_bits _ _ h12
  exact ⟨fun i n => finite_of_bit (of_fold_and _ h1 (0, i, n)), fun n d => finite_of_bit (of_fold_and _ h2 (n, d)),
    fun s p d => finite_of_bit (of_fold_and _ h3 (s, p, d))⟩

end Cert.Part

end

end
-- ==== Proof.lean ====
/-
  The claims of the exchange of keys and values, of the attention of one device, and of one device's summand of the
  result. The exchange's run on the machine is
  Proof/Run.lean's, for any float values; the equation between the exchanged slabs and the reference's rearranged arrays
  is Proof/Bridge.lean's. What the attention's array holds is Proof/AttnArray.lean's, and what the precondition says of
  the entries is Proof/AttnPre.lean's. The summand's run is Proof/PartArray.lean's, and what its reference and its
  precondition say is Proof/PartRef.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Value
public import proofs.«01_k».proof.Proof.Gen.AttentionReferenceIdeal
public import proofs.«01_k».proof.Proof.Gen.Pre_finite_queries_and_keys
public import proofs.«01_k».proof.Proof.Gen.AttentionReferenceIdeal.Run
public import proofs.«01_k».proof.Proof.Gen.Device
public import proofs.«01_k».proof.Proof.Gen.Device.Frame
public import proofs.«01_k».proof.Proof.Gen.DeviceIdeal
public import proofs.«01_k».proof.Proof.Gen.DeviceIdeal.Frame
public import proofs.«01_k».proof.Proof.Gen.DeviceReferenceIdeal
public import proofs.«01_k».proof.Proof.Gen.Pre_finite_inputs_and_keys
public import proofs.«01_k».proof.Proof.Gen.DeviceReferenceIdeal.Run
public import proofs.«01_k».proof.Proof.Run
public import proofs.«01_k».proof.Proof.Bridge
public import proofs.«01_k».proof.Proof.AttnArray
public import proofs.«01_k».proof.Proof.AttnPre
public import proofs.«01_k».proof.Proof.PartArray
public import proofs.«01_k».proof.Proof.PartRef
public import Idealize.ShloMosaic.Adequacy
public import Idealize.ShloMosaic.Init

@[expose] public section

noncomputable section

namespace Cert.Proof

open Idealize.ShloMosaic Idealize.SL.Sem

/-- The kernel as printed ends on every execution, keeps its arguments and leaves every counter at zero: the two
    printed programs are one text, and the run of that text is known at any float values. -/
theorem frame_kernel : Cert.quiescent_Kernel := fun m ρ _ =>
  (θ_run Cert.KernelIdeal.defs _ _).mono (fun _ h => ⟨fun c => ⟨(h.1 c).1, (h.1 c).2.1⟩, h.2⟩)
    (Cert.A2a.run_main (F := Bits) m ρ)

/-- The same of the kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.A2a.run_main (F := Ideal) m ρ)

/-- The reference is host operations one after another, and declares no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Where the devices start from their quarters of the reference's keys and values, the reference ends with both
    arrays rearranged, and each device with its quarter of the rows of each. -/
theorem algebraic : Cert.algebraic_KernelIdeal_ReferenceIdeal := by
  intro m ρ m' ρ' _ hagree
  let K := m' (((0 : Dev Cert.ReferenceIdeal.nD).tc : Thread _ Cert.ReferenceIdeal.τ).loc Cert.ReferenceIdeal.main_arg0)
  let V := m' (((0 : Dev Cert.ReferenceIdeal.nD).tc : Thread _ Cert.ReferenceIdeal.τ).loc Cert.ReferenceIdeal.main_arg1)
  have hk : Cert.A2a.kAt (F := Ideal) m = fun s => Layout.block ⟨3, ![32, 2048, 128]⟩ ⟨3, ![32, 8192, 128]⟩ 1 4 s K :=
    funext fun s => (hagree s).1
  have hv : Cert.A2a.vAt (F := Ideal) m = fun s => Layout.block ⟨3, ![32, 2048, 128]⟩ ⟨3, ![32, 8192, 128]⟩ 1 4 s V :=
    funext fun s => (hagree s).2
  refine ⟨Cert.A2a.rearranged K, Cert.A2a.rearranged V, ?_, ?_⟩
  · refine (θ_run Cert.KernelIdeal.defs _ _).mono (fun _ h c => ?_) (Cert.A2a.run_main (F := Ideal) m ρ)
    obtain ⟨ha0, ha1, h0, h1⟩ := h.1 c
    refine ⟨h0.trans ?_, h1.trans ?_, ha0, ha1⟩
    · unfold Cert.A2a.kOut
      rw [hk]
      exact Cert.A2a.exchange_blocks K c
    · unfold Cert.A2a.vOut
      rw [hv]
      exact Cert.A2a.exchange_blocks V c
  · exact (θ_run Cert.ReferenceIdeal.defs _ _).mono (fun _ h => h 0) (Cert.ReferenceIdeal.Value.run (F := Ideal) m' ρ')

/-- The attention call as printed, and idealized, ends on every execution and keeps its arguments. -/
theorem frame_attention : Cert.quiescent_Attention := fun m ρ _ => Cert.Attention.Gen.frame m ρ

/-- The same of the idealized attention call. -/
theorem frame_attentionIdeal : Cert.quiescent_AttentionIdeal := fun m ρ _ => Cert.AttentionIdeal.Gen.frame m ρ

/-- The attention's reference is host operations one after another. -/
theorem frame_attentionReferenceIdeal : Cert.quiescent_AttentionReferenceIdeal := fun m ρ _ =>
  (θ_run Cert.AttentionReferenceIdeal.defs _ _).mono
    (fun r h => ⟨fun c => (h c).2, sem_eq_zero_of_no_sems (by decide) r.2⟩)
    (Cert.AttentionReferenceIdeal.Value.run (F := Ideal) m ρ)

/-- The mask's value is named, and the name stands for negative infinity. -/
theorem preserves_attention : Cert.preserves_Attention_AttentionIdeal := by
  exact IdealRules.named_const.statement _ _ _ _ _ rfl

/-- Of finite queries and keys, the idealized attention call leaves the reference's result. -/
theorem algebraic_attention : Cert.algebraic_AttentionIdeal_AttentionReferenceIdeal_pre_finite_queries_and_keys := by
  intro m ρ m' ρ' hpre hagree
  refine ⟨fun c => Cert.AttentionReferenceIdeal.Value.res_out0 (F := Ideal) m' c, ?_, Cert.AttentionReferenceIdeal.Value.run (F := Ideal) m' ρ'⟩
  refine (θ_run Cert.AttentionIdeal.defs _ _).mono (fun _ h c => ⟨(h c).1.trans ?_, (h c).2⟩)
    (Cert.AttentionIdeal.Value.run_blocks (F := Ideal) m ρ)
  obtain ⟨hq, hk⟩ := Cert.Attn.finite_of_pre _ _ _ (hpre c)
  refine (Cert.Attn.array_eq m c hq hk).trans (Eq.trans ?_ (Cert.Attn.res_eq m' c).symm)
  rw [(hagree c).1, (hagree c).2.1, (hagree c).2.2]

/-- The summand's program as printed, and idealized, ends on every execution and keeps its arguments. -/
theorem frame_device : Cert.quiescent_Device := fun m ρ _ => Cert.Device.Gen.frame m ρ

/-- The same of the idealized summand's program. -/
theorem frame_deviceIdeal : Cert.quiescent_DeviceIdeal := fun m ρ _ => Cert.DeviceIdeal.Gen.frame m ρ

/-- The summand's reference is host operations one after another. -/
theorem frame_deviceReferenceIdeal : Cert.quiescent_DeviceReferenceIdeal := fun m ρ _ =>
  (θ_run Cert.DeviceReferenceIdeal.defs _ _).mono
    (fun r h => ⟨fun c => (h c).2, sem_eq_zero_of_no_sems (by decide) r.2⟩)
    (Cert.DeviceReferenceIdeal.Value.run (F := Ideal) m ρ)

/-- The mask of the summand's attention is named likewise. -/
theorem preserves_device : Cert.preserves_Device_DeviceIdeal := by
  exact IdealRules.named_const.statement _ _ _ _ _ rfl

/-- Of a finite input, finite queries' weights and finite keys, the idealized program leaves the reference's summand. -/
theorem algebraic_device : Cert.algebraic_DeviceIdeal_DeviceReferenceIdeal_pre_finite_inputs_and_keys := by
  intro m ρ m' ρ' hpre hagree
  refine ⟨fun c => Cert.DeviceReferenceIdeal.Value.res_out0 (F := Ideal) m' c, ?_, Cert.DeviceReferenceIdeal.Value.run (F := Ideal) m' ρ'⟩
  refine (θ_run Cert.DeviceIdeal.defs _ _).mono (fun _ h c => ⟨(h c).1.trans ?_, (h c).2⟩) (Cert.Part.run m ρ)
  obtain ⟨hx, hw, hk⟩ := Cert.Part.finite_of_pre _ _ _ _ _ (hpre c)
  refine (congrArg (Cert.Part.summand · _) (Cert.Part.array_eq m c hx hw hk)).trans (Eq.trans ?_ (Cert.Part.res_eq m' c).symm)
  rw [(hagree c).1, (hagree c).2.1, (hagree c).2.2.1, (hagree c).2.2.2.1, (hagree c).2.2.2.2]

/-- The claims together, after the facts of each printed program. -/
theorem claim : Cert.Claim :=
  ⟨Cert.Kernel.Gen.facts, Cert.KernelIdeal.Gen.facts, Cert.ReferenceIdeal.Gen.facts,
    Cert.Attention.Gen.facts, Cert.AttentionIdeal.Gen.facts, Cert.AttentionReferenceIdeal.Gen.facts,
    Cert.Device.Gen.facts, Cert.DeviceIdeal.Gen.facts, Cert.DeviceReferenceIdeal.Gen.facts,
    Cert.Pre_finite_queries_and_keys.Gen.facts, Cert.Pre_finite_inputs_and_keys.Gen.facts,
    frame_kernel, frame_kernelIdeal, frame_referenceIdeal, frame_attention, frame_attentionIdeal,
    fun m ρ _ => frame_attentionIdeal m ρ trivial, frame_attentionReferenceIdeal,
    fun m ρ _ => frame_attentionReferenceIdeal m ρ trivial, frame_device, frame_deviceIdeal,
    fun m ρ _ => frame_deviceIdeal m ρ trivial, frame_deviceReferenceIdeal,
    fun m ρ _ => frame_deviceReferenceIdeal m ρ trivial, trivial, algebraic, preserves_attention,
    algebraic_attention, preserves_device, algebraic_device⟩

end Cert.Proof

end
